-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 8192]⟩ (Layout.meshBlock [2, 2, 4] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 8192]⟩ (Layout.meshBlock [2, 2, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S128x512 : Shape := ⟨2, ![128, 512]⟩
abbrev S3x32x512 : Shape := ⟨3, ![3, 32, 512]⟩
abbrev S3 : Shape := ⟨1, ![3]⟩
abbrev S_ : Shape := ⟨0, ![]⟩
abbrev S128x2048 : Shape := ⟨2, ![128, 2048]⟩
abbrev S1 : Shape := ⟨1, ![1]⟩
abbrev S1x32x512 : Shape := ⟨3, ![1, 32, 512]⟩
abbrev S32x512 : Shape := ⟨2, ![32, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x512, .f32⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S128x512, .bf16⟩
  | .local _ .vmem, ⟨4, _⟩ => ⟨S3x32x512, .bf16⟩
  | .local _ .vmem, ⟨5, _⟩ => ⟨S512x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v23 : BitVec 32 := Scalar.muli v2 c8_i32_10
  let v24 : BitVec 32 := Scalar.addi c0_i32_11 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v25 : BitVec 32 := Scalar.muli v5 c4_i32_12
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_13 : BitVec 32 := 1#32
  let v27 : BitVec 32 := Scalar.muli v22 c1_i32_13
  let v28 : BitVec 32 := Scalar.addi v26 v27
  v28.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v29 : BitVec 32 := Scalar.addi v8 c2_i32_14
  let c4_i32_15 : BitVec 32 := 4#32
  let c0_i32_16 : BitVec 32 := 0#32
  let v30 : BitVec 1 := Scalar.cmpi .eq c4_i32_15 c0_i32_16
  let c1_i32_17 : BitVec 32 := 1#32
  let v31 : BitVec 32 := Scalar.select v30 c1_i32_17 c4_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c1_i32_25 : BitVec 32 := 1#32
  let v44 : BitVec 32 := Scalar.muli v39 c1_i32_25
  let v45 : BitVec 32 := Scalar.addi v43 v44
  v45.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v57 : BitVec 32 := Scalar.muli v2 c8_i32_33
  let v58 : BitVec 32 := Scalar.addi c0_i32_34 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v46 : BitVec 32 := Scalar.addi v8 c3_i32
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_36 : BitVec 32 := 1#32
  let v61 : BitVec 32 := Scalar.muli v56 c1_i32_36
  let v62 : BitVec 32 := Scalar.addi v60 v61
  v62.toNat
def k0_dev4 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_37 : BitVec 32 := 0#32
  let v63 : BitVec 32 := Scalar.addi v2 c0_i32_37
  let c2_i32_38 : BitVec 32 := 2#32
  let c0_i32_39 : BitVec 32 := 0#32
  let v64 : BitVec 1 := Scalar.cmpi .eq c2_i32_38 c0_i32_39
  let c1_i32_40 : BitVec 32 := 1#32
  let v65 : BitVec 32 := Scalar.select v64 c1_i32_40 c2_i32_38
  let v66 : BitVec 32 := Scalar.remsi v63 v65
  let c0_i32_42 : BitVec 32 := 0#32
  let v68 : BitVec 1 := Scalar.cmpi .slt v66 c0_i32_42
  let c0_i32_43 : BitVec 32 := 0#32
  let v69 : BitVec 1 := Scalar.cmpi .slt v65 c0_i32_43
  let v70 : BitVec 1 := Scalar.xori v68 v69
  let c0_i32_41 : BitVec 32 := 0#32
  let v67 : BitVec 1 := Scalar.cmpi .ne v66 c0_i32_41
  let v71 : BitVec 1 := Scalar.andi v70 v67
  let v72 : BitVec 32 := Scalar.addi v66 v65
  let v73 : BitVec 32 := Scalar.select v71 v72 v66
  let c8_i32_52 : BitVec 32 := 8#32
  let v85 : BitVec 32 := Scalar.muli v73 c8_i32_52
  let v86 : BitVec 32 := Scalar.addi c0_i32_53 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_44 : BitVec 32 := 1#32
  let v74 : BitVec 32 := Scalar.addi v5 c1_i32_44
  let c2_i32_45 : BitVec 32 := 2#32
  let c0_i32_46 : BitVec 32 := 0#32
  let v75 : BitVec 1 := Scalar.cmpi .eq c2_i32_45 c0_i32_46
  let c1_i32_47 : BitVec 32 := 1#32
  let v76 : BitVec 32 := Scalar.select v75 c1_i32_47 c2_i32_45
  let v77 : BitVec 32 := Scalar.remsi v74 v76
  let c0_i32_49 : BitVec 32 := 0#32
  let v79 : BitVec 1 := Scalar.cmpi .slt v77 c0_i32_49
  let c0_i32_50 : BitVec 32 := 0#32
  let v80 : BitVec 1 := Scalar.cmpi .slt v76 c0_i32_50
  let v81 : BitVec 1 := Scalar.xori v79 v80
  let c0_i32_48 : BitVec 32 := 0#32
  let v78 : BitVec 1 := Scalar.cmpi .ne v77 c0_i32_48
  let v82 : BitVec 1 := Scalar.andi v81 v78
  let v83 : BitVec 32 := Scalar.addi v77 v76
  let v84 : BitVec 32 := Scalar.select v82 v83 v77
  let c4_i32_54 : BitVec 32 := 4#32
  let v87 : BitVec 32 := Scalar.muli v84 c4_i32_54
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v89 : BitVec 32 := Scalar.muli v8 c1_i32_55
  let v90 : BitVec 32 := Scalar.addi v88 v89
  v90.toNat
def k0_dev5 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_56 : BitVec 32 := 1#32
  let v91 : BitVec 32 := Scalar.addi v2 c1_i32_56
  let c2_i32_57 : BitVec 32 := 2#32
  let c0_i32_58 : BitVec 32 := 0#32
  let v92 : BitVec 1 := Scalar.cmpi .eq c2_i32_57 c0_i32_58
  let c1_i32_59 : BitVec 32 := 1#32
  let v93 : BitVec 32 := Scalar.select v92 c1_i32_59 c2_i32_57
  let v94 : BitVec 32 := Scalar.remsi v91 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c8_i32_71 : BitVec 32 := 8#32
  let v113 : BitVec 32 := Scalar.muli v101 c8_i32_71
  let v114 : BitVec 32 := Scalar.addi c0_i32_72 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_63 : BitVec 32 := 0#32
  let v102 : BitVec 32 := Scalar.addi v5 c0_i32_63
  let c2_i32_64 : BitVec 32 := 2#32
  let c0_i32_65 : BitVec 32 := 0#32
  let v103 : BitVec 1 := Scalar.cmpi .eq c2_i32_64 c0_i32_65
  let c1_i32_66 : BitVec 32 := 1#32
  let v104 : BitVec 32 := Scalar.select v103 c1_i32_66 c2_i32_64
  let v105 : BitVec 32 := Scalar.remsi v102 v104
  let c0_i32_68 : BitVec 32 := 0#32
  let v107 : BitVec 1 := Scalar.cmpi .slt v105 c0_i32_68
  let c0_i32_69 : BitVec 32 := 0#32
  let v108 : BitVec 1 := Scalar.cmpi .slt v104 c0_i32_69
  let v109 : BitVec 1 := Scalar.xori v107 v108
  let c0_i32_67 : BitVec 32 := 0#32
  let v106 : BitVec 1 := Scalar.cmpi .ne v105 c0_i32_67
  let v110 : BitVec 1 := Scalar.andi v109 v106
  let v111 : BitVec 32 := Scalar.addi v105 v104
  let v112 : BitVec 32 := Scalar.select v110 v111 v105
  let c4_i32_73 : BitVec 32 := 4#32
  let v115 : BitVec 32 := Scalar.muli v112 c4_i32_73
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v117 : BitVec 32 := Scalar.muli v8 c1_i32_74
  let v118 : BitVec 32 := Scalar.addi v116 v117
  v118.toNat
def k0_dev6 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_75 : BitVec 32 := 1#32
  let v119 : BitVec 32 := Scalar.addi v2 c1_i32_75
  let c2_i32_76 : BitVec 32 := 2#32
  let c0_i32_77 : BitVec 32 := 0#32
  let v120 : BitVec 1 := Scalar.cmpi .eq c2_i32_76 c0_i32_77
  let c1_i32_78 : BitVec 32 := 1#32
  let v121 : BitVec 32 := Scalar.select v120 c1_i32_78 c2_i32_76
  let v122 : BitVec 32 := Scalar.remsi v119 v121
  let c0_i32_80 : BitVec 32 := 0#32
  let v124 : BitVec 1 := Scalar.cmpi .slt v122 c0_i32_80
  let c0_i32_81 : BitVec 32 := 0#32
  let v125 : BitVec 1 := Scalar.cmpi .slt v121 c0_i32_81
  let v126 : BitVec 1 := Scalar.xori v124 v125
  let c0_i32_79 : BitVec 32 := 0#32
  let v123 : BitVec 1 := Scalar.cmpi .ne v122 c0_i32_79
  let v127 : BitVec 1 := Scalar.andi v126 v123
  let v128 : BitVec 32 := Scalar.addi v122 v121
  let v129 : BitVec 32 := Scalar.select v127 v128 v122
  let c8_i32_90 : BitVec 32 := 8#32
  let v141 : BitVec 32 := Scalar.muli v129 c8_i32_90
  let v142 : BitVec 32 := Scalar.addi c0_i32_91 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_82 : BitVec 32 := 1#32
  let v130 : BitVec 32 := Scalar.addi v5 c1_i32_82
  let c2_i32_83 : BitVec 32 := 2#32
  let c0_i32_84 : BitVec 32 := 0#32
  let v131 : BitVec 1 := Scalar.cmpi .eq c2_i32_83 c0_i32_84
  let c1_i32_85 : BitVec 32 := 1#32
  let v132 : BitVec 32 := Scalar.select v131 c1_i32_85 c2_i32_83
  let v133 : BitVec 32 := Scalar.remsi v130 v132
  let c0_i32_87 : BitVec 32 := 0#32
  let v135 : BitVec 1 := Scalar.cmpi .slt v133 c0_i32_87
  let c0_i32_88 : BitVec 32 := 0#32
  let v136 : BitVec 1 := Scalar.cmpi .slt v132 c0_i32_88
  let v137 : BitVec 1 := Scalar.xori v135 v136
  let c0_i32_86 : BitVec 32 := 0#32
  let v134 : BitVec 1 := Scalar.cmpi .ne v133 c0_i32_86
  let v138 : BitVec 1 := Scalar.andi v137 v134
  let v139 : BitVec 32 := Scalar.addi v133 v132
  let v140 : BitVec 32 := Scalar.select v138 v139 v133
  let c4_i32_92 : BitVec 32 := 4#32
  let v143 : BitVec 32 := Scalar.muli v140 c4_i32_92
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.muli v8 c1_i32_93
  let v146 : BitVec 32 := Scalar.addi v144 v145
  v146.toNat
def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v147 : BitVec 32 := Scalar.muli v10 c128_i32
  let v148 : Index := Scalar.indexCast v147
  let c0 : Index := 0#32
  ![v148.toNat, 0]
def k0_off2 (d0 : Dev nD) (c1_i32_98 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v158 : BitVec 32 := Scalar.addi v8 c1_i32_98
  let c4_i32_99 : BitVec 32 := 4#32
  let c0_i32_100 : BitVec 32 := 0#32
  let v159 : BitVec 1 := Scalar.cmpi .eq c4_i32_99 c0_i32_100
  let c1_i32_101 : BitVec 32 := 1#32
  let v160 : BitVec 32 := Scalar.select v159 c1_i32_101 c4_i32_99
  let v161 : BitVec 32 := Scalar.remsi v158 v160
  let c0_i32_103 : BitVec 32 := 0#32
  let v163 : BitVec 1 := Scalar.cmpi .slt v161 c0_i32_103
  let c0_i32_104 : BitVec 32 := 0#32
  let v164 : BitVec 1 := Scalar.cmpi .slt v160 c0_i32_104
  let v165 : BitVec 1 := Scalar.xori v163 v164
  let c0_i32_102 : BitVec 32 := 0#32
  let v162 : BitVec 1 := Scalar.cmpi .ne v161 c0_i32_102
  let v166 : BitVec 1 := Scalar.andi v165 v162
  let v167 : BitVec 32 := Scalar.addi v161 v160
  let v168 : BitVec 32 := Scalar.select v166 v167 v161
  let c32_i32 : BitVec 32 := 32#32
  let v169 : BitVec 32 := Scalar.muli v168 c32_i32
  let c0_i32_121 : BitVec 32 := 0#32
  ![v169.toNat, 0]
def k0_dev7 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v181 : BitVec 32 := Scalar.muli v2 c8_i32_115
  let v182 : BitVec 32 := Scalar.addi c0_i32_116 v181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v183 : BitVec 32 := Scalar.muli v5 c4_i32_117
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v170 : BitVec 32 := Scalar.addi v8 c1_i32_105
  let c4_i32_106 : BitVec 32 := 4#32
  let c0_i32_107 : BitVec 32 := 0#32
  let v171 : BitVec 1 := Scalar.cmpi .eq c4_i32_106 c0_i32_107
  let c1_i32_108 : BitVec 32 := 1#32
  let v172 : BitVec 32 := Scalar.select v171 c1_i32_108 c4_i32_106
  let v173 : BitVec 32 := Scalar.remsi v170 v172
  let c0_i32_110 : BitVec 32 := 0#32
  let v175 : BitVec 1 := Scalar.cmpi .slt v173 c0_i32_110
  let c0_i32_111 : BitVec 32 := 0#32
  let v176 : BitVec 1 := Scalar.cmpi .slt v172 c0_i32_111
  let v177 : BitVec 1 := Scalar.xori v175 v176
  let c0_i32_109 : BitVec 32 := 0#32
  let v174 : BitVec 1 := Scalar.cmpi .ne v173 c0_i32_109
  let v178 : BitVec 1 := Scalar.andi v177 v174
  let v179 : BitVec 32 := Scalar.addi v173 v172
  let v180 : BitVec 32 := Scalar.select v178 v179 v173
  let c1_i32_118 : BitVec 32 := 1#32
  let v185 : BitVec 32 := Scalar.muli v180 c1_i32_118
  let v186 : BitVec 32 := Scalar.addi v184 v185
  v186.toNat
def k0_dev8 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v217 : BitVec 32 := Scalar.muli v2 c8_i32_140
  let v218 : BitVec 32 := Scalar.addi c0_i32_141 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_142 : BitVec 32 := 4#32
  let v219 : BitVec 32 := Scalar.muli v5 c4_i32_142
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_130 : BitVec 32 := 2#32
  let v206 : BitVec 32 := Scalar.addi v8 c2_i32_130
  let c4_i32_131 : BitVec 32 := 4#32
  let c0_i32_132 : BitVec 32 := 0#32
  let v207 : BitVec 1 := Scalar.cmpi .eq c4_i32_131 c0_i32_132
  let c1_i32_133 : BitVec 32 := 1#32
  let v208 : BitVec 32 := Scalar.select v207 c1_i32_133 c4_i32_131
  let v209 : BitVec 32 := Scalar.remsi v206 v208
  let c0_i32_135 : BitVec 32 := 0#32
  let v211 : BitVec 1 := Scalar.cmpi .slt v209 c0_i32_135
  let c0_i32_136 : BitVec 32 := 0#32
  let v212 : BitVec 1 := Scalar.cmpi .slt v208 c0_i32_136
  let v213 : BitVec 1 := Scalar.xori v211 v212
  let c0_i32_134 : BitVec 32 := 0#32
  let v210 : BitVec 1 := Scalar.cmpi .ne v209 c0_i32_134
  let v214 : BitVec 1 := Scalar.andi v213 v210
  let v215 : BitVec 32 := Scalar.addi v209 v208
  let v216 : BitVec 32 := Scalar.select v214 v215 v209
  let c1_i32_143 : BitVec 32 := 1#32
  let v221 : BitVec 32 := Scalar.muli v216 c1_i32_143
  let v222 : BitVec 32 := Scalar.addi v220 v221
  v222.toNat
def k0_dev9 (d0 : Dev nD) : Nat :=
  let c0_i32_166 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_165 : BitVec 32 := 8#32
  let v253 : BitVec 32 := Scalar.muli v2 c8_i32_165
  let v254 : BitVec 32 := Scalar.addi c0_i32_166 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_167 : BitVec 32 := 4#32
  let v255 : BitVec 32 := Scalar.muli v5 c4_i32_167
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_155 : BitVec 32 := 3#32
  let v242 : BitVec 32 := Scalar.addi v8 c3_i32_155
  let c4_i32_156 : BitVec 32 := 4#32
  let c0_i32_157 : BitVec 32 := 0#32
  let v243 : BitVec 1 := Scalar.cmpi .eq c4_i32_156 c0_i32_157
  let c1_i32_158 : BitVec 32 := 1#32
  let v244 : BitVec 32 := Scalar.select v243 c1_i32_158 c4_i32_156
  let v245 : BitVec 32 := Scalar.remsi v242 v244
  let c0_i32_160 : BitVec 32 := 0#32
  let v247 : BitVec 1 := Scalar.cmpi .slt v245 c0_i32_160
  let c0_i32_161 : BitVec 32 := 0#32
  let v248 : BitVec 1 := Scalar.cmpi .slt v244 c0_i32_161
  let v249 : BitVec 1 := Scalar.xori v247 v248
  let c0_i32_159 : BitVec 32 := 0#32
  let v246 : BitVec 1 := Scalar.cmpi .ne v245 c0_i32_159
  let v250 : BitVec 1 := Scalar.andi v249 v246
  let v251 : BitVec 32 := Scalar.addi v245 v244
  let v252 : BitVec 32 := Scalar.select v250 v251 v245
  let c1_i32_168 : BitVec 32 := 1#32
  let v257 : BitVec 32 := Scalar.muli v252 c1_i32_168
  let v258 : BitVec 32 := Scalar.addi v256 v257
  v258.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_223 : BitVec 32 := 32#32
  let v314 : BitVec 32 := Scalar.muli v8 c32_i32_223
  let v315 : Index := Scalar.indexCast v314
  let c0_224 : Index := 0#32
  ![v315.toNat, 0]
def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_232 : BitVec 32 := 128#32
  let v330 : BitVec 32 := Scalar.muli v10 c128_i32_232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_233 : BitVec 32 := 32#32
  let v331 : BitVec 32 := Scalar.muli v8 c32_i32_233
  let v332 : BitVec 32 := Scalar.addi v330 v331
  let v334 : Index := Scalar.indexCast v332
  let c0_234 : Index := 0#32
  ![v334.toNat, 0]
def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_232 : BitVec 32 := 128#32
  let v330 : BitVec 32 := Scalar.muli v10 c128_i32_232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_233 : BitVec 32 := 32#32
  let v331 : BitVec 32 := Scalar.muli v8 c32_i32_233
  let v332 : BitVec 32 := Scalar.addi v330 v331
  let c0_i32_248 : BitVec 32 := 0#32
  ![v332.toNat, 0]
def k0_dev10 (d0 : Dev nD) : Nat :=
  let c0_i32_245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_244 : BitVec 32 := 8#32
  let v349 : BitVec 32 := Scalar.muli v2 c8_i32_244
  let v350 : BitVec 32 := Scalar.addi c0_i32_245 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v351 : BitVec 32 := Scalar.muli v5 c4_i32_246
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v338 : BitVec 32 := Scalar.addi v8 c1_i32_235
  let c4_i32_236 : BitVec 32 := 4#32
  let c0_i32_237 : BitVec 32 := 0#32
  let v339 : BitVec 1 := Scalar.cmpi .eq c4_i32_236 c0_i32_237
  let c1_i32_238 : BitVec 32 := 1#32
  let v340 : BitVec 32 := Scalar.select v339 c1_i32_238 c4_i32_236
  let v341 : BitVec 32 := Scalar.remsi v338 v340
  let c0_i32_240 : BitVec 32 := 0#32
  let v343 : BitVec 1 := Scalar.cmpi .slt v341 c0_i32_240
  let c0_i32_241 : BitVec 32 := 0#32
  let v344 : BitVec 1 := Scalar.cmpi .slt v340 c0_i32_241
  let v345 : BitVec 1 := Scalar.xori v343 v344
  let c0_i32_239 : BitVec 32 := 0#32
  let v342 : BitVec 1 := Scalar.cmpi .ne v341 c0_i32_239
  let v346 : BitVec 1 := Scalar.andi v345 v342
  let v347 : BitVec 32 := Scalar.addi v341 v340
  let v348 : BitVec 32 := Scalar.select v346 v347 v341
  let c1_i32_247 : BitVec 32 := 1#32
  let v353 : BitVec 32 := Scalar.muli v348 c1_i32_247
  let v354 : BitVec 32 := Scalar.addi v352 v353
  v354.toNat
def k0_dev11 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v372 : BitVec 32 := Scalar.muli v2 c8_i32_259
  let v373 : BitVec 32 := Scalar.addi c0_i32_260 v372
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v374 : BitVec 32 := Scalar.muli v5 c4_i32_261
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_250 : BitVec 32 := 2#32
  let v361 : BitVec 32 := Scalar.addi v8 c2_i32_250
  let c4_i32_251 : BitVec 32 := 4#32
  let c0_i32_252 : BitVec 32 := 0#32
  let v362 : BitVec 1 := Scalar.cmpi .eq c4_i32_251 c0_i32_252
  let c1_i32_253 : BitVec 32 := 1#32
  let v363 : BitVec 32 := Scalar.select v362 c1_i32_253 c4_i32_251
  let v364 : BitVec 32 := Scalar.remsi v361 v363
  let c0_i32_255 : BitVec 32 := 0#32
  let v366 : BitVec 1 := Scalar.cmpi .slt v364 c0_i32_255
  let c0_i32_256 : BitVec 32 := 0#32
  let v367 : BitVec 1 := Scalar.cmpi .slt v363 c0_i32_256
  let v368 : BitVec 1 := Scalar.xori v366 v367
  let c0_i32_254 : BitVec 32 := 0#32
  let v365 : BitVec 1 := Scalar.cmpi .ne v364 c0_i32_254
  let v369 : BitVec 1 := Scalar.andi v368 v365
  let v370 : BitVec 32 := Scalar.addi v364 v363
  let v371 : BitVec 32 := Scalar.select v369 v370 v364
  let c1_i32_262 : BitVec 32 := 1#32
  let v376 : BitVec 32 := Scalar.muli v371 c1_i32_262
  let v377 : BitVec 32 := Scalar.addi v375 v376
  v377.toNat
def k0_dev12 (d0 : Dev nD) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v395 : BitVec 32 := Scalar.muli v2 c8_i32_274
  let v396 : BitVec 32 := Scalar.addi c0_i32_275 v395
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v397 : BitVec 32 := Scalar.muli v5 c4_i32_276
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_265 : BitVec 32 := 3#32
  let v384 : BitVec 32 := Scalar.addi v8 c3_i32_265
  let c4_i32_266 : BitVec 32 := 4#32
  let c0_i32_267 : BitVec 32 := 0#32
  let v385 : BitVec 1 := Scalar.cmpi .eq c4_i32_266 c0_i32_267
  let c1_i32_268 : BitVec 32 := 1#32
  let v386 : BitVec 32 := Scalar.select v385 c1_i32_268 c4_i32_266
  let v387 : BitVec 32 := Scalar.remsi v384 v386
  let c0_i32_270 : BitVec 32 := 0#32
  let v389 : BitVec 1 := Scalar.cmpi .slt v387 c0_i32_270
  let c0_i32_271 : BitVec 32 := 0#32
  let v390 : BitVec 1 := Scalar.cmpi .slt v386 c0_i32_271
  let v391 : BitVec 1 := Scalar.xori v389 v390
  let c0_i32_269 : BitVec 32 := 0#32
  let v388 : BitVec 1 := Scalar.cmpi .ne v387 c0_i32_269
  let v392 : BitVec 1 := Scalar.andi v391 v388
  let v393 : BitVec 32 := Scalar.addi v387 v386
  let v394 : BitVec 32 := Scalar.select v392 v393 v387
  let c1_i32_277 : BitVec 32 := 1#32
  let v399 : BitVec 32 := Scalar.muli v394 c1_i32_277
  let v400 : BitVec 32 := Scalar.addi v398 v399
  v400.toNat
def k0_off6 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_320 : BitVec 32 := 128#32
  let v450 : BitVec 32 := Scalar.muli v10 c128_i32_320
  let c0_i32_341 : BitVec 32 := 0#32
  ![v450.toNat, 0]
def k0_dev13 (d0 : Dev nD) : Nat :=
  let c0_i32_338 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_321 : BitVec 32 := 0#32
  let v451 : BitVec 32 := Scalar.addi v2 c0_i32_321
  let c2_i32_322 : BitVec 32 := 2#32
  let c0_i32_323 : BitVec 32 := 0#32
  let v452 : BitVec 1 := Scalar.cmpi .eq c2_i32_322 c0_i32_323
  let c1_i32_324 : BitVec 32 := 1#32
  let v453 : BitVec 32 := Scalar.select v452 c1_i32_324 c2_i32_322
  let v454 : BitVec 32 := Scalar.remsi v451 v453
  let c0_i32_326 : BitVec 32 := 0#32
  let v456 : BitVec 1 := Scalar.cmpi .slt v454 c0_i32_326
  let c0_i32_327 : BitVec 32 := 0#32
  let v457 : BitVec 1 := Scalar.cmpi .slt v453 c0_i32_327
  let v458 : BitVec 1 := Scalar.xori v456 v457
  let c0_i32_325 : BitVec 32 := 0#32
  let v455 : BitVec 1 := Scalar.cmpi .ne v454 c0_i32_325
  let v459 : BitVec 1 := Scalar.andi v458 v455
  let v460 : BitVec 32 := Scalar.addi v454 v453
  let v461 : BitVec 32 := Scalar.select v459 v460 v454
  let c8_i32_337 : BitVec 32 := 8#32
  let v473 : BitVec 32 := Scalar.muli v461 c8_i32_337
  let v474 : BitVec 32 := Scalar.addi c0_i32_338 v473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_328 : BitVec 32 := 1#32
  let v462 : BitVec 32 := Scalar.addi v5 c1_i32_328
  let c2_i32_329 : BitVec 32 := 2#32
  let c0_i32_330 : BitVec 32 := 0#32
  let v463 : BitVec 1 := Scalar.cmpi .eq c2_i32_329 c0_i32_330
  let c1_i32_331 : BitVec 32 := 1#32
  let v464 : BitVec 32 := Scalar.select v463 c1_i32_331 c2_i32_329
  let v465 : BitVec 32 := Scalar.remsi v462 v464
  let c0_i32_333 : BitVec 32 := 0#32
  let v467 : BitVec 1 := Scalar.cmpi .slt v465 c0_i32_333
  let c0_i32_334 : BitVec 32 := 0#32
  let v468 : BitVec 1 := Scalar.cmpi .slt v464 c0_i32_334
  let v469 : BitVec 1 := Scalar.xori v467 v468
  let c0_i32_332 : BitVec 32 := 0#32
  let v466 : BitVec 1 := Scalar.cmpi .ne v465 c0_i32_332
  let v470 : BitVec 1 := Scalar.andi v469 v466
  let v471 : BitVec 32 := Scalar.addi v465 v464
  let v472 : BitVec 32 := Scalar.select v470 v471 v465
  let c4_i32_339 : BitVec 32 := 4#32
  let v475 : BitVec 32 := Scalar.muli v472 c4_i32_339
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v477 : BitVec 32 := Scalar.muli v8 c1_i32_340
  let v478 : BitVec 32 := Scalar.addi v476 v477
  v478.toNat
def k0_dev14 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_345 : BitVec 32 := 1#32
  let v487 : BitVec 32 := Scalar.addi v2 c1_i32_345
  let c2_i32_346 : BitVec 32 := 2#32
  let c0_i32_347 : BitVec 32 := 0#32
  let v488 : BitVec 1 := Scalar.cmpi .eq c2_i32_346 c0_i32_347
  let c1_i32_348 : BitVec 32 := 1#32
  let v489 : BitVec 32 := Scalar.select v488 c1_i32_348 c2_i32_346
  let v490 : BitVec 32 := Scalar.remsi v487 v489
  let c0_i32_350 : BitVec 32 := 0#32
  let v492 : BitVec 1 := Scalar.cmpi .slt v490 c0_i32_350
  let c0_i32_351 : BitVec 32 := 0#32
  let v493 : BitVec 1 := Scalar.cmpi .slt v489 c0_i32_351
  let v494 : BitVec 1 := Scalar.xori v492 v493
  let c0_i32_349 : BitVec 32 := 0#32
  let v491 : BitVec 1 := Scalar.cmpi .ne v490 c0_i32_349
  let v495 : BitVec 1 := Scalar.andi v494 v491
  let v496 : BitVec 32 := Scalar.addi v490 v489
  let v497 : BitVec 32 := Scalar.select v495 v496 v490
  let c8_i32_361 : BitVec 32 := 8#32
  let v509 : BitVec 32 := Scalar.muli v497 c8_i32_361
  let v510 : BitVec 32 := Scalar.addi c0_i32_362 v509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_352 : BitVec 32 := 0#32
  let v498 : BitVec 32 := Scalar.addi v5 c0_i32_352
  let c2_i32_353 : BitVec 32 := 2#32
  let c0_i32_354 : BitVec 32 := 0#32
  let v499 : BitVec 1 := Scalar.cmpi .eq c2_i32_353 c0_i32_354
  let c1_i32_355 : BitVec 32 := 1#32
  let v500 : BitVec 32 := Scalar.select v499 c1_i32_355 c2_i32_353
  let v501 : BitVec 32 := Scalar.remsi v498 v500
  let c0_i32_357 : BitVec 32 := 0#32
  let v503 : BitVec 1 := Scalar.cmpi .slt v501 c0_i32_357
  let c0_i32_358 : BitVec 32 := 0#32
  let v504 : BitVec 1 := Scalar.cmpi .slt v500 c0_i32_358
  let v505 : BitVec 1 := Scalar.xori v503 v504
  let c0_i32_356 : BitVec 32 := 0#32
  let v502 : BitVec 1 := Scalar.cmpi .ne v501 c0_i32_356
  let v506 : BitVec 1 := Scalar.andi v505 v502
  let v507 : BitVec 32 := Scalar.addi v501 v500
  let v508 : BitVec 32 := Scalar.select v506 v507 v501
  let c4_i32_363 : BitVec 32 := 4#32
  let v511 : BitVec 32 := Scalar.muli v508 c4_i32_363
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v513 : BitVec 32 := Scalar.muli v8 c1_i32_364
  let v514 : BitVec 32 := Scalar.addi v512 v513
  v514.toNat
def k0_dev15 (d0 : Dev nD) : Nat :=
  let c0_i32_386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_369 : BitVec 32 := 1#32
  let v523 : BitVec 32 := Scalar.addi v2 c1_i32_369
  let c2_i32_370 : BitVec 32 := 2#32
  let c0_i32_371 : BitVec 32 := 0#32
  let v524 : BitVec 1 := Scalar.cmpi .eq c2_i32_370 c0_i32_371
  let c1_i32_372 : BitVec 32 := 1#32
  let v525 : BitVec 32 := Scalar.select v524 c1_i32_372 c2_i32_370
  let v526 : BitVec 32 := Scalar.remsi v523 v525
  let c0_i32_374 : BitVec 32 := 0#32
  let v528 : BitVec 1 := Scalar.cmpi .slt v526 c0_i32_374
  let c0_i32_375 : BitVec 32 := 0#32
  let v529 : BitVec 1 := Scalar.cmpi .slt v525 c0_i32_375
  let v530 : BitVec 1 := Scalar.xori v528 v529
  let c0_i32_373 : BitVec 32 := 0#32
  let v527 : BitVec 1 := Scalar.cmpi .ne v526 c0_i32_373
  let v531 : BitVec 1 := Scalar.andi v530 v527
  let v532 : BitVec 32 := Scalar.addi v526 v525
  let v533 : BitVec 32 := Scalar.select v531 v532 v526
  let c8_i32_385 : BitVec 32 := 8#32
  let v545 : BitVec 32 := Scalar.muli v533 c8_i32_385
  let v546 : BitVec 32 := Scalar.addi c0_i32_386 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_376 : BitVec 32 := 1#32
  let v534 : BitVec 32 := Scalar.addi v5 c1_i32_376
  let c2_i32_377 : BitVec 32 := 2#32
  let c0_i32_378 : BitVec 32 := 0#32
  let v535 : BitVec 1 := Scalar.cmpi .eq c2_i32_377 c0_i32_378
  let c1_i32_379 : BitVec 32 := 1#32
  let v536 : BitVec 32 := Scalar.select v535 c1_i32_379 c2_i32_377
  let v537 : BitVec 32 := Scalar.remsi v534 v536
  let c0_i32_381 : BitVec 32 := 0#32
  let v539 : BitVec 1 := Scalar.cmpi .slt v537 c0_i32_381
  let c0_i32_382 : BitVec 32 := 0#32
  let v540 : BitVec 1 := Scalar.cmpi .slt v536 c0_i32_382
  let v541 : BitVec 1 := Scalar.xori v539 v540
  let c0_i32_380 : BitVec 32 := 0#32
  let v538 : BitVec 1 := Scalar.cmpi .ne v537 c0_i32_380
  let v542 : BitVec 1 := Scalar.andi v541 v538
  let v543 : BitVec 32 := Scalar.addi v537 v536
  let v544 : BitVec 32 := Scalar.select v542 v543 v537
  let c4_i32_387 : BitVec 32 := 4#32
  let v547 : BitVec 32 := Scalar.muli v544 c4_i32_387
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v549 : BitVec 32 := Scalar.muli v8 c1_i32_388
  let v550 : BitVec 32 := Scalar.addi v548 v549
  v550.toNat
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .bf16⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S512x512, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Text.lean ====
/-
The kernel's devices, the pieces of its scratch buffers, and its body as a plain sequence of memory operations.

Device `c` of sixteen sits at plane position `c / 4` and depth `c % 4`. `zt i c` is the device `i + 1` further along
the depth axis (around), `zs i c` the one whose `zt i` is `c`, `fl k c` the device at the same depth in another plane
position. The body is written again over named pieces (`prog`), and `body_eq` says that it is the printed one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.Sem

variable {F : FTy → Type} [FloatOps F]

/-! ## Devices -/

/-- The device `i + 1` further along the depth axis, around. -/
def zt (i : Fin 3) (c : Dev nD) : Dev nD := ⟨4 * (c.val / 4) + (c.val % 4 + (i.val + 1)) % 4, by have := c.isLt; simp only [nD] at *; omega⟩
/-- The device `3 - i` further along the depth axis: the one whose `zt i` is `c`. -/
def zs (i : Fin 3) (c : Dev nD) : Dev nD := ⟨4 * (c.val / 4) + (c.val % 4 + (3 - i.val)) % 4, by have := c.isLt; simp only [nD] at *; omega⟩
/-- The device at the same depth with the second coordinate, the first, or both flipped. -/
def fl (k : Fin 3) (c : Dev nD) : Dev nD := ⟨Nat.xor c.val (4 * (k.val + 1)) % 16, Nat.mod_lt _ (by decide)⟩

set_option backward.proofsInPublic true in
theorem zs_zt : ∀ (i : Fin 3) (c : Dev nD), zs i (zt i c) = c := by decide +kernel
set_option backward.proofsInPublic true in
theorem zt_zs : ∀ (i : Fin 3) (c : Dev nD), zt i (zs i c) = c := by decide +kernel
theorem zt_rev : ∀ (i : Fin 3) (c : Dev nD), zt i.rev c = zs i c := by decide +kernel
theorem zs_rev : ∀ (i : Fin 3) (c : Dev nD), zs i.rev c = zt i c := by decide +kernel
set_option backward.proofsInPublic true in
theorem fl_fl : ∀ (k : Fin 3) (c : Dev nD), fl k (fl k c) = c := by decide +kernel

/-- Where a device sends in its steps of kind `b`: along the depth axis, or across the plane. -/
def peer (b : Bool) (i : Fin 3) (c : Dev nD) : Dev nD := if b then fl i c else zt i c
/-- Who sends to a device in its steps of kind `b`. -/
def from_ (b : Bool) (i : Fin 3) (c : Dev nD) : Dev nD := if b then fl i c else zs i c
theorem from_peer (b : Bool) (i : Fin 3) (c : Dev nD) : from_ b i (peer b i c) = c := by cases b <;> simp [from_, peer, zs_zt, fl_fl]
theorem peer_from (b : Bool) (i : Fin 3) (c : Dev nD) : peer b i (from_ b i c) = c := by cases b <;> simp [from_, peer, zt_zs, fl_fl]
/-- `peer` as a permutation of the devices. -/
def peerE (b : Bool) (i : Fin 3) : Dev nD ≃ Dev nD := ⟨peer b i, from_ b i, from_peer b i, peer_from b i⟩

/-! ## The addressed devices, as the program computes them -/

/-- The fifteen addressed devices in the program's order: signals along the depth axis and across the plane, then the
    three rounds of copies. -/
def rawDv (c : Dev nD) : Fin 5 → Fin 3 → Dev nD :=
  ![![⟨k0_dev1 c, k0_dev1_lt c⟩, ⟨k0_dev2 c, k0_dev2_lt c⟩, ⟨k0_dev3 c, k0_dev3_lt c⟩],
    ![⟨k0_dev4 c, k0_dev4_lt c⟩, ⟨k0_dev5 c, k0_dev5_lt c⟩, ⟨k0_dev6 c, k0_dev6_lt c⟩],
    ![⟨k0_dev7 c, k0_dev7_lt c⟩, ⟨k0_dev8 c, k0_dev8_lt c⟩, ⟨k0_dev9 c, k0_dev9_lt c⟩],
    ![⟨k0_dev10 c, k0_dev10_lt c⟩, ⟨k0_dev11 c, k0_dev11_lt c⟩, ⟨k0_dev12 c, k0_dev12_lt c⟩],
    ![⟨k0_dev13 c, k0_dev13_lt c⟩, ⟨k0_dev14 c, k0_dev14_lt c⟩, ⟨k0_dev15 c, k0_dev15_lt c⟩]]
/-- The same fifteen devices by their meaning. -/
def dv (c : Dev nD) (g : Fin 5) (i : Fin 3) : Dev nD := peer (![false, true, false, false, true] g) i c
theorem rawDv_apply : ∀ (c : Dev nD) (g : Fin 5) (i : Fin 3), rawDv c g i = dv c g i := by decide +kernel
theorem rawDv_eq (c : Dev nD) : rawDv c = dv c := funext fun g => funext fun i => rawDv_apply c g i

/-! ## Memory -/

abbrev dyM : Memref sig .tc .vmem S512x2048 .bf16 := Memref.whole cc0_stg0_0
abbrev wM : Memref sig .tc .vmem S512x2048 .bf16 := Memref.whole cc0_stg1_0
abbrev outM : Memref sig .tc .vmem S512x512 .f32 := Memref.whole cc0_stg2_0
abbrev paM : Memref sig .tc .vmem S128x512 .bf16 := Memref.whole cc0_scratch0
abbrev rsM : Memref sig .tc .vmem S3x32x512 .bf16 := Memref.whole cc0_scratch1
abbrev agM : Memref sig .tc .vmem S512x512 .bf16 := Memref.whole cc0_scratch2

theorem rs_inb : ∀ (i : Fin 3) (a : Fin 3), (![i.val, 0, 0] : Fin 3 → Nat) a + S1x32x512.size a ≤ S3x32x512.size a := by decide
theorem rs_words : ∀ i : Fin 3, (Rect.unit (s := S3x32x512) ![i.val, 0, 0] S1x32x512.size (rs_inb i)).WholeWords (EltTy.packing .bf16) := by decide

/-- The piece of the partial product that device `c` sends to `zt i c`. -/
abbrev paR (c : Dev nD) (i : Fin 3) : Rect S128x512 := Rect.unit (s := S128x512) (k0_off2 c (BitVec.ofNat 32 (1 + i.val))) S32x512.size (k0_off2_inb c i)
abbrev paSl (c : Dev nD) (i : Fin 3) : Memref sig .tc .vmem S32x512 .bf16 := paM.slice (paR c i) (fun _ => rfl)
/-- The piece of its partial product that device `c` keeps. -/
abbrev paO (c : Dev nD) : Rect S128x512 := Rect.unit (s := S128x512) (k0_off3 c) S32x512.size (k0_off3_inb c)
/-- Slot `i` of the landing buffer. -/
abbrev rsR (i : Fin 3) : Rect S3x32x512 := Rect.unit (s := S3x32x512) ![i.val, 0, 0] S1x32x512.size (rs_inb i)
abbrev rsSl (i : Fin 3) : Memref sig .tc .vmem S32x512 .bf16 := (rsM.slice (rsR i) (fun _ => rfl)).squeeze S32x512 squeezes_S1x32x512_S32x512
/-- The 32 rows of the gathered product that device `s` reduces. -/
abbrev agPR (s : Dev nD) : Rect S512x512 := Rect.unit (s := S512x512) (k0_off5 s) S32x512.size (k0_off5_inb s)
abbrev agP (s : Dev nD) : Memref sig .tc .vmem S32x512 .bf16 := agM.slice (agPR s) (fun _ => rfl)
/-- The 128 rows of the gathered product that the plane position of device `s` owns. -/
abbrev agBR (s : Dev nD) : Rect S512x512 := Rect.unit (s := S512x512) (k0_off6 s) S128x512.size (k0_off6_inb s)
abbrev agB (s : Dev nD) : Memref sig .tc .vmem S128x512 .bf16 := agM.slice (agBR s) (fun _ => rfl)

/-- The DMA semaphores: of round `p`, on the sending (`false`) or the receiving side, for copy `i`. -/
def dsem (p : Fin 3) (r : Bool) (i : Fin 3) : DmaSem sig :=
  ⟨3 + 6 * p.val + (if r then 3 else 0) + i.val, by have := p.isLt; have := i.isLt; show _ < 21; split <;> omega⟩
/-- The barrier semaphore. -/
abbrev barS : Sem sig := (SemArray.scalar (sig.barrier 0 rfl) : Sems sig S_).sem

theorem pa_exact (c : Dev nD) (i : Fin 3) : (paSl c i).view.WordExact := (Memref.isWhole_whole cc0_scratch0).wordExact_slice rfl _ (k0_off2_wordsbf16 c i)
theorem rs_exact (i : Fin 3) : (rsSl i).view.WordExact := ((Memref.isWhole_whole cc0_scratch1).wordExact_slice rfl _ (rs_words i)).reshape _ _
theorem agP_exact (s : Dev nD) : (agP s).view.WordExact := (Memref.isWhole_whole cc0_scratch2).wordExact_slice rfl _ (k0_off5_wordsbf16 s)
theorem agB_exact (s : Dev nD) : (agB s).view.WordExact := (Memref.isWhole_whole cc0_scratch2).wordExact_slice rfl _ (k0_off6_wordsbf16 s)

/-! ## The body -/

abbrev PR (F : FTy → Type) := Prog (TpuEff nD τ sig (Elt F) Λ₀ .tc) PUnit

/-- The six signals and the wait. -/
def pBar (dv : Fin 5 → Fin 3 → Dev nD) (k : PR F) : PR F :=
  Prog.op (.semSignal (dv 0 0, .tc) barS (1 : ℕ)) fun _ => Prog.op (.semSignal (dv 0 1, .tc) barS (1 : ℕ)) fun _ =>
  Prog.op (.semSignal (dv 0 2, .tc) barS (1 : ℕ)) fun _ => Prog.op (.semSignal (dv 1 0, .tc) barS (1 : ℕ)) fun _ =>
  Prog.op (.semSignal (dv 1 1, .tc) barS (1 : ℕ)) fun _ => Prog.op (.semSignal (dv 1 2, .tc) barS (1 : ℕ)) fun _ =>
  Prog.op (.semWait barS (6 : ℕ)) fun _ => k

/-- The partial product. -/
def pPart (c : Dev nD) (k : PR F) : PR F :=
  Prog.op (.load dyM (Rect.unit (s := S512x2048) (k0_off1 c) S128x2048.size (k0_off1_inb c)).toLoadRect (View.loadsAt_vmem h_S128x2048)) fun v149 =>
  Prog.op (.load wM (Rect.unit (s := S512x2048) ![0, 0] S512x2048.size inb_S512x2048_S512x2048_0_0).toLoadRect (View.loadsAt_vmem h_S512x2048)) fun v151 =>
  Prog.op (.load paM (Rect.unit (s := S128x512) ![0, 0] S128x512.size inb_S128x512_S128x512_0_0).toLoadRect (View.loadsAt_vmem h_S128x512)) fun _ =>
  Prog.op (.store paM (Rect.unit (s := S128x512) ![0, 0] S128x512.size inb_S128x512_S128x512_0_0) (k0_pay2 v149 v151) Finset.univ (View.stores_vmem h_S128x512 ((Memref.isWhole_whole cc0_scratch0).storeExact_slice rfl _ packedbf16_S128x512_S128x512_0_0) (fun _ => rfl)) (.inl rfl)) fun _ => k

/-- One copy of the first round. -/
def pSend1 (c d : Dev nD) (i : Fin 3) (k : PR F) : PR F :=
  Prog.op (.enqueueDma (paSl c i) (.remote (Dev.tc d) (rsSl i) (.dma (dsem 0 false i))) (.dma (dsem 0 true i)) (pa_exact c i) (rs_exact i) ⟨⟨rfl, Or.inl rfl⟩, trivial⟩) fun _ => k
/-- The two waits for one copy of the first round. -/
def pWait1 (c : Dev nD) (i : Fin 3) (k : PR F) : PR F :=
  Prog.op (.waitDma2 (dsem 0 false i) (rsSl i) (paSl c i) (rs_exact i) (pa_exact c i)) fun _ =>
  Prog.op (.waitDma2 (dsem 0 true i) (paSl c i) (rsSl i) (pa_exact c i) (rs_exact i)) fun _ => k

/-- The sum of the four pieces, stored into the own rows of the gathered product. -/
def pRed (c : Dev nD) (k : PR F) : PR F :=
  Prog.op (.load paM (paO c).toLoadRect (View.loadsAt_vmem h_S32x512)) fun v316 =>
  Prog.op (.load rsM (rsR 0).toLoadRect (View.loadsAt_vmem h_S1x32x512)) fun v318 =>
  Prog.op (.load rsM (rsR 1).toLoadRect (View.loadsAt_vmem h_S1x32x512)) fun v322 =>
  Prog.op (.load rsM (rsR 2).toLoadRect (View.loadsAt_vmem h_S1x32x512)) fun v326 =>
  Prog.op (.load agM (Rect.unit (s := S512x512) (k0_off4 c) S32x512.size (k0_off4_inb c)).toLoadRect (View.loadsAt_vmem h_S32x512)) fun _ =>
  Prog.op (.store agM (Rect.unit (s := S512x512) (k0_off4 c) S32x512.size (k0_off4_inb c)) (k0_pay4 (k0_pay3 v316 v318 v322 v326)) Finset.univ (View.stores_vmem h_S32x512 ((Memref.isWhole_whole cc0_scratch2).storeExact_slice rfl _ (k0_off4_packedbf16 c)) (fun _ => rfl)) (.inl rfl)) fun _ => k

/-- One copy of the second round. -/
def pSend2 (c d : Dev nD) (i : Fin 3) (k : PR F) : PR F :=
  Prog.op (.enqueueDma (agP c) (.remote (Dev.tc d) (agP c) (.dma (dsem 1 false i))) (.dma (dsem 1 true i)) (agP_exact c) (agP_exact c) ⟨⟨rfl, Or.inl rfl⟩, trivial⟩) fun _ => k
/-- The two waits for one copy of the second round. -/
def pWait2 (c : Dev nD) (i : Fin 3) (k : PR F) : PR F :=
  Prog.op (.waitDma2 (dsem 1 false i) (agP c) (agP c) (agP_exact c) (agP_exact c)) fun _ =>
  Prog.op (.waitDma2 (dsem 1 true i) (agP c) (agP c) (agP_exact c) (agP_exact c)) fun _ => k
/-- One copy of the third round. -/
def pSend3 (c d : Dev nD) (i : Fin 3) (k : PR F) : PR F :=
  Prog.op (.enqueueDma (agB c) (.remote (Dev.tc d) (agB c) (.dma (dsem 2 false i))) (.dma (dsem 2 true i)) (agB_exact c) (agB_exact c) ⟨⟨rfl, Or.inl rfl⟩, trivial⟩) fun _ => k
/-- The two waits for one copy of the third round. -/
def pWait3 (c : Dev nD) (i : Fin 3) (k : PR F) : PR F :=
  Prog.op (.waitDma2 (dsem 2 false i) (agB c) (agB c) (agB_exact c) (agB_exact c)) fun _ =>
  Prog.op (.waitDma2 (dsem 2 true i) (agB c) (agB c) (agB_exact c) (agB_exact c)) fun _ => k

/-- The result. -/
def pOut (k : PR F) : PR F :=
  Prog.op (.load agM (Rect.unit (s := S512x512) ![0, 0] S512x512.size inb_S512x512_S512x512_0_0).toLoadRect (View.loadsAt_vmem h_S512x512)) fun v599 =>
  Prog.op (.load outM (Rect.unit (s := S512x512) ![0, 0] S512x512.size inb_S512x512_S512x512_0_0).toLoadRect (View.loadsAt_vmem h_S512x512)) fun _ =>
  Prog.op (.store outM (Rect.unit (s := S512x512) ![0, 0] S512x512.size inb_S512x512_S512x512_0_0) (k0_pay1 v599) Finset.univ (View.stores_vmem_bits_univ h_S512x512 rfl) (.inl rfl)) fun _ => k

/-- The whole body on device `c`, addressing the devices `dv`. -/
def prog (c : Dev nD) (dv : Fin 5 → Fin 3 → Dev nD) : PR F :=
  pBar dv <| pPart c <|
  pSend1 c (dv 2 0) 0 <| pSend1 c (dv 2 1) 1 <| pSend1 c (dv 2 2) 2 <|
  pWait1 c 0 <| pWait1 c 1 <| pWait1 c 2 <| pRed c <|
  pSend2 c (dv 3 0) 0 <| pSend2 c (dv 3 1) 1 <| pSend2 c (dv 3 2) 2 <|
  pWait2 c 0 <| pWait2 c 1 <| pWait2 c 2 <|
  pSend3 c (dv 4 0) 0 <| pSend3 c (dv 4 1) 1 <| pSend3 c (dv 4 2) 2 <|
  pWait3 c 0 <| pWait3 c 1 <| pWait3 c 2 <| pOut (Prog.ret ⟨⟩)

/-- The printed body, at the kernel's buffers. -/
abbrev printed : PR F :=
  cc0_body dyM (Memref.isWhole_whole _) wM (Memref.isWhole_whole _) outM (Memref.isWhole_whole _) paM (Memref.isWhole_whole _)
    rsM (Memref.isWhole_whole _) agM (Memref.isWhole_whole _) cc0_scratch3 cc0_scratch4 cc0_scratch5 cc0_scratch6 cc0_scratch7 cc0_scratch8

set_option maxRecDepth 65536 in
/-- The printed body reads its device and then does `prog`. -/
theorem printed_eq : printed (F := F) = Prog.op .deviceId fun c => prog c (rawDv c) := rfl

end Cert.KernelIdeal.Run
-- ==== Proof.Sets.lean ====
/-
Which elements the pieces of the scratch buffers have, and that the pieces split the buffers.

A row index decides the piece: 32 rows for a piece of the partial product or of the gathered product, 128 rows for a
plane position's block, the first index for a landing slot. Ownership of a buffer, or of a block, is ownership of its
four pieces (three for the landing buffer).
-/
module

public import proofs.«01_k».proof.Proof.Text

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own, and the exchange's with duties named by kind and index -/

abbrev UB : Type := URounds (GSem nD τ sig) (Bool × Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Membership -/

theorem off2_eq : ∀ (c : Dev nD) (i : Fin 3), k0_off2 c (BitVec.ofNat 32 (1 + i.val)) = ![32 * ((c.val % 4 + (i.val + 1)) % 4), 0] := by decide +kernel
theorem off5_eq : ∀ c : Dev nD, k0_off5 c = ![32 * c.val, 0] := by decide +kernel
theorem off6_eq : ∀ c : Dev nD, k0_off6 c = ![128 * (c.val / 4), 0] := by decide +kernel
theorem off45 (c : Dev nD) : k0_off4 c = k0_off5 c := by rw [k0_off4_eq, k0_off5_eq]

/-- A unit rectangle of whole rows of a matrix: by the row. -/
theorem mem_rows {n h o : ℕ} {off : Fin 2 → ℕ} (ho : off = ![o, 0])
    {inb : ∀ a, off a + (![h, 512] : Fin 2 → ℕ) a ≤ (⟨2, ![n, 512]⟩ : Shape).size a} (j : (⟨2, ![n, 512]⟩ : Shape).Idx) :
    j ∈ (Rect.unit (s := ⟨2, ![n, 512]⟩) off ![h, 512] inb).set ↔ o ≤ (j 0).val ∧ (j 0).val < o + h := by
  subst ho
  rw [Rect.mem_set_unit, Fin.forall_fin_two]
  have h1 : (j 1).val < 512 := (j 1).isLt
  simp only [Matrix.cons_val_zero, Matrix.cons_val_one]
  omega

theorem mem_paR (c : Dev nD) (i : Fin 3) (j : S128x512.Idx) : j ∈ (paR c i).set ↔ (j 0).val / 32 = (c.val % 4 + (i.val + 1)) % 4 :=
  (mem_rows (off2_eq c i) j).trans (by omega)
theorem mem_paO (c : Dev nD) (j : S128x512.Idx) : j ∈ (paO c).set ↔ (j 0).val / 32 = c.val % 4 :=
  (mem_rows (k0_off3_eq c) j).trans (by omega)
theorem mem_agPR (s : Dev nD) (j : S512x512.Idx) : j ∈ (agPR s).set ↔ (j 0).val / 32 = s.val :=
  (mem_rows (off5_eq s) j).trans (by omega)
theorem mem_agBR (s : Dev nD) (j : S512x512.Idx) : j ∈ (agBR s).set ↔ (j 0).val / 128 = s.val / 4 :=
  (mem_rows (off6_eq s) j).trans (by omega)
theorem mem_rsR (i : Fin 3) (j : S3x32x512.Idx) : j ∈ (rsR i).set ↔ (j 0).val = i.val := by
  rw [Rect.mem_set_unit]
  have h1 : (j 1).val < 32 := (j 1).isLt
  have h2 : (j 2).val < 512 := (j 2).isLt
  constructor
  · intro h; have := h 0; simp only [Matrix.cons_val_zero] at this; omega
  · intro h a; fin_cases a <;> simp <;> omega

theorem set_paSl (c : Dev nD) (i : Fin 3) : (paSl c i).view.set = (paR c i).set := View.set_slice_whole cc0_scratch0 (paR c i)
theorem set_rsSl (i : Fin 3) : (rsSl i).view.set = (rsR i).set := (View.set_reshape _ _).trans (View.set_slice_whole cc0_scratch1 (rsR i))
theorem set_agP (s : Dev nD) : (agP s).view.set = (agPR s).set := View.set_slice_whole cc0_scratch2 (agPR s)
theorem set_agB (s : Dev nD) : (agB s).view.set = (agBR s).set := View.set_slice_whole cc0_scratch2 (agBR s)

/-! ## Ownership of the pieces -/

/-- The piece of `c`'s partial product that goes to `zt i c`. -/
abbrev paPt (c : Dev nD) (i : Fin 3) (q : PosShare TreeShare) (f : Vec F S128x512 .bf16) : sProp 𝕄 :=
  (paSl c i).view.loc (c : Thread nD τ) ↦[(paSl c i).view.set]{q} f
/-- The piece of its partial product that `c` keeps. -/
abbrev paOPt (c : Dev nD) (f : Vec F S128x512 .bf16) : sProp 𝕄 :=
  (paM.access (paO c)).loc (c : Thread nD τ) ↦[(paO c).set]{fullShare} f
/-- Slot `i` of device `d`'s landing buffer. -/
abbrev rsPt (i : Fin 3) (d : Dev nD) (f : Vec F S3x32x512 .bf16) : sProp 𝕄 :=
  (rsSl i).view.loc (d : Thread nD τ) ↦[(rsSl i).view.set]{fullShare} f
/-- Device `s`'s 32 rows of the gathered product, on device `d`. -/
abbrev agPPt (s d : Dev nD) (q : PosShare TreeShare) (f : Vec F S512x512 .bf16) : sProp 𝕄 :=
  (agP s).view.loc (d : Thread nD τ) ↦[(agP s).view.set]{q} f
/-- The 128 rows of the gathered product of device `s`'s plane position, on device `d`. -/
abbrev agBPt (s d : Dev nD) (q : PosShare TreeShare) (f : Vec F S512x512 .bf16) : sProp 𝕄 :=
  (agB s).view.loc (d : Thread nD τ) ↦[(agB s).view.set]{q} f

/-! ## The splits -/

section Split

variable {ℓ : Loc nD τ sig}

omit [FloatOps F] in
/-- Ownership over a union of four disjoint sets. -/
theorem split4 (K : Fin 4 → Finset (Idx ℓ)) (S : Finset (Idx ℓ)) (hd : ∀ t t' j, j ∈ K t → j ∈ K t' → t = t')
    (hu : ∀ j, j ∈ S ↔ ∃ t, j ∈ K t) (q : PosShare TreeShare) (f : Buf (Elt F) ℓ) :
    (ℓ ↦[S]{q} f : sProp 𝕄) = iprop((ℓ ↦[K 0]{q} f) ∗ (ℓ ↦[K 1]{q} f) ∗ (ℓ ↦[K 2]{q} f) ∗ ℓ ↦[K 3]{q} f) := by
  have hS : S = Finset.univ.biUnion K := by ext j; rw [hu]; simp
  rw [hS, pointsTo_biUnion Finset.univ K fun t _ t' _ hne => Finset.disjoint_left.2 fun j h h' => hne (hd t t' j h h')]
  exact bigSep_univ_eq_bigSepL [0, 1, 2, 3] (by decide) (by decide) _

omit [FloatOps F] in
/-- Ownership over a union of three disjoint sets. -/
theorem split3 (K : Fin 3 → Finset (Idx ℓ)) (S : Finset (Idx ℓ)) (hd : ∀ t t' j, j ∈ K t → j ∈ K t' → t = t')
    (hu : ∀ j, j ∈ S ↔ ∃ t, j ∈ K t) (q : PosShare TreeShare) (f : Buf (Elt F) ℓ) :
    (ℓ ↦[S]{q} f : sProp 𝕄) = iprop((ℓ ↦[K 0]{q} f) ∗ (ℓ ↦[K 1]{q} f) ∗ ℓ ↦[K 2]{q} f) := by
  have hS : S = Finset.univ.biUnion K := by ext j; rw [hu]; simp
  rw [hS, pointsTo_biUnion Finset.univ K fun t _ t' _ hne => Finset.disjoint_left.2 fun j h h' => hne (hd t t' j h h')]
  exact bigSep_univ_eq_bigSepL [0, 1, 2] (by decide) (by decide) _

end Split

/-- The four pieces of device `c`'s partial product. -/
def paK (c : Dev nD) : Fin 4 → Finset S128x512.Idx := ![(paO c).set, (paSl c 0).view.set, (paSl c 1).view.set, (paSl c 2).view.set]
theorem mem_paK (c : Dev nD) (t : Fin 4) (j : S128x512.Idx) : j ∈ paK c t ↔ (j 0).val / 32 = (c.val % 4 + t.val) % 4 := by
  have h0 := mem_paO c j
  have h1 (i : Fin 3) : j ∈ (paSl c i).view.set ↔ (j 0).val / 32 = (c.val % 4 + (i.val + 1)) % 4 := by rw [set_paSl]; exact mem_paR c i j
  fin_cases t
  · exact h0.trans (by simp)
  · exact h1 0
  · exact h1 1
  · exact h1 2

omit [FloatOps F] in
theorem pa_split (c : Dev nD) (f : Vec F S128x512 .bf16) :
    (((c : Thread nD τ).loc cc0_scratch0 ↦{fullShare} f) : sProp 𝕄)
      = iprop(paOPt c f ∗ paPt c 0 fullShare f ∗ paPt c 1 fullShare f ∗ paPt c 2 fullShare f) := by
  refine split4 (F := F) (ℓ := (c : Thread nD τ).loc cc0_scratch0) (paK c) Finset.univ (fun t t' j h h' => ?_) (fun j => ?_) fullShare f
  · have h := (mem_paK c t j).1 h; have h' := (mem_paK c t' j).1 h'; apply Fin.ext; have := t.isLt; have := t'.isLt; omega
  · have hj : ((j : S128x512.Idx) 0).val < 128 := ((j : S128x512.Idx) 0).isLt
    refine ⟨fun _ => ⟨⟨(((j : S128x512.Idx) 0).val / 32 + 4 - c.val % 4) % 4, Nat.mod_lt _ (by decide)⟩, (mem_paK c _ j).2 ?_⟩, fun _ => Finset.mem_univ _⟩
    show _ = (c.val % 4 + (((j : S128x512.Idx) 0).val / 32 + 4 - c.val % 4) % 4) % 4
    omega

omit [FloatOps F] in
theorem rs_split (d : Dev nD) (f : Vec F S3x32x512 .bf16) :
    (((d : Thread nD τ).loc cc0_scratch1 ↦{fullShare} f) : sProp 𝕄) = iprop(rsPt 0 d f ∗ rsPt 1 d f ∗ rsPt 2 d f) := by
  have hm (i : Fin 3) (j : S3x32x512.Idx) : j ∈ (rsSl i).view.set ↔ (j 0).val = i.val := by rw [set_rsSl]; exact mem_rsR i j
  refine split3 (F := F) (ℓ := (d : Thread nD τ).loc cc0_scratch1) (fun i => (rsSl i).view.set) Finset.univ (fun t t' j h h' => ?_) (fun j => ?_) fullShare f
  · have h := (hm t j).1 h; have h' := (hm t' j).1 h'; exact Fin.ext (h.symm.trans h')
  · exact ⟨fun _ => ⟨(j : S3x32x512.Idx) 0, (hm _ j).2 rfl⟩, fun _ => Finset.mem_univ _⟩

/-- The plane position's four devices' rows. -/
def agK (c : Dev nD) : Fin 4 → Finset S512x512.Idx := ![(agP c).view.set, (agP (zt 0 c)).view.set, (agP (zt 1 c)).view.set, (agP (zt 2 c)).view.set]
theorem mem_agK (c : Dev nD) (t : Fin 4) (j : S512x512.Idx) : j ∈ agK c t ↔ (j 0).val / 32 = 4 * (c.val / 4) + (c.val % 4 + t.val) % 4 := by
  have h1 (s : Dev nD) : j ∈ (agP s).view.set ↔ (j 0).val / 32 = s.val := by rw [set_agP]; exact mem_agPR s j
  fin_cases t
  · exact (h1 c).trans (by simp; omega)
  · exact h1 _
  · exact h1 _
  · exact h1 _

omit [FloatOps F] in
/-- A plane position's block on device `d` is the rows of its four devices. -/
theorem agB_split (c d : Dev nD) (q : PosShare TreeShare) (f : Vec F S512x512 .bf16) :
    (agBPt c d q f : sProp 𝕄) = iprop(agPPt c d q f ∗ agPPt (zt 0 c) d q f ∗ agPPt (zt 1 c) d q f ∗ agPPt (zt 2 c) d q f) := by
  have hm (j : S512x512.Idx) : j ∈ (agB c).view.set ↔ (j 0).val / 128 = c.val / 4 := by rw [set_agB]; exact mem_agBR c j
  refine split4 (F := F) (ℓ := (d : Thread nD τ).loc cc0_scratch2) (agK c) (agB c).view.set (fun t t' j h h' => ?_) (fun j => (hm j).trans ?_) q f
  · have h := (mem_agK c t j).1 h; have h' := (mem_agK c t' j).1 h'; apply Fin.ext; have := t.isLt; have := t'.isLt; omega
  · constructor
    · intro h
      refine ⟨⟨(((j : S512x512.Idx) 0).val / 32 + 4 - c.val % 4) % 4, Nat.mod_lt _ (by decide)⟩, (mem_agK c _ j).2 ?_⟩
      show _ = 4 * (c.val / 4) + (c.val % 4 + (((j : S512x512.Idx) 0).val / 32 + 4 - c.val % 4) % 4) % 4
      omega
    · rintro ⟨t, h⟩; have h := (mem_agK c t j).1 h; omega

/-- The four plane positions' blocks. -/
def agL (c : Dev nD) : Fin 4 → Finset S512x512.Idx := ![(agB c).view.set, (agB (fl 0 c)).view.set, (agB (fl 1 c)).view.set, (agB (fl 2 c)).view.set]
theorem fl_val : ∀ (c : Dev nD) (k : Fin 3), (fl k c).val / 4 = Nat.xor (c.val / 4) (k.val + 1) := by decide +kernel
theorem mem_agL (c : Dev nD) (t : Fin 4) (j : S512x512.Idx) : j ∈ agL c t ↔ (j 0).val / 128 = Nat.xor (c.val / 4) t.val := by
  have h1 (s : Dev nD) : j ∈ (agB s).view.set ↔ (j 0).val / 128 = s.val / 4 := by rw [set_agB]; exact mem_agBR s j
  fin_cases t
  · exact (h1 c).trans (by show _ ↔ _ = Nat.xor (c.val / 4) 0; rw [show Nat.xor (c.val / 4) 0 = c.val / 4 from Nat.xor_zero _])
  · exact (h1 _).trans (by rw [fl_val]; rfl)
  · exact (h1 _).trans (by rw [fl_val]; rfl)
  · exact (h1 _).trans (by rw [fl_val]; rfl)
theorem xor_inj : ∀ (a : Fin 4) (t t' : Fin 4), Nat.xor a.val t.val = Nat.xor a.val t'.val → t = t' := by decide
theorem xor_surj : ∀ (a b : Fin 4), ∃ t : Fin 4, b.val = Nat.xor a.val t.val := by decide

omit [FloatOps F] in
/-- The gathered product on device `d` is the four plane positions' blocks. -/
theorem ag_split (c d : Dev nD) (f : Vec F S512x512 .bf16) :
    (((d : Thread nD τ).loc cc0_scratch2 ↦{fullShare} f) : sProp 𝕄)
      = iprop(agBPt c d fullShare f ∗ agBPt (fl 0 c) d fullShare f ∗ agBPt (fl 1 c) d fullShare f ∗ agBPt (fl 2 c) d fullShare f) := by
  have hc : c.val / 4 < 4 := by have := c.isLt; simp only [nD] at this; omega
  refine split4 (F := F) (ℓ := (d : Thread nD τ).loc cc0_scratch2) (agL c) Finset.univ (fun t t' j h h' => ?_) (fun j => ?_) fullShare f
  · have h := (mem_agL c t j).1 h; have h' := (mem_agL c t' j).1 h'; exact xor_inj ⟨_, hc⟩ t t' (h.symm.trans h')
  · have hj : ((j : S512x512.Idx) 0).val < 512 := ((j : S512x512.Idx) 0).isLt
    obtain ⟨t, ht⟩ := xor_surj ⟨_, hc⟩ ⟨((j : S512x512.Idx) 0).val / 128, by omega⟩
    exact ⟨fun _ => ⟨t, (mem_agL c t j).2 ht⟩, fun _ => Finset.mem_univ _⟩

/-! ## Shares: three copies read one source at once -/

/-- The three shares of a source. -/
def sh : Fin 3 → PosShare TreeShare := ![(fullShare : PosShare TreeShare).left, fullShare.right.left, fullShare.right.right]

omit [FloatOps F] in
theorem share3 (ℓ : Loc nD τ sig) (S : Finset (Idx ℓ)) (f : Buf (Elt F) ℓ) :
    (ℓ ↦[S]{fullShare} f : sProp 𝕄) = iprop((ℓ ↦[S]{sh 0} f) ∗ (ℓ ↦[S]{sh 1} f) ∗ ℓ ↦[S]{sh 2} f) := by
  rw [BI.Entails.antisymm (pointsTo_share (PosShare.mem_left_op_right fullShare)).1 (pointsTo_share (PosShare.mem_left_op_right fullShare)).2]
  conv_lhs => rw [BI.Entails.antisymm (pointsTo_share (q := fullShare.right) (PosShare.mem_left_op_right fullShare.right)).1 (pointsTo_share (q := fullShare.right) (PosShare.mem_left_op_right fullShare.right)).2]
  rfl

end Cert.KernelIdeal.Run
-- ==== Proof.Sched.lean ====
/-
The exchange's schedule: which cells there are, who pays each, how much, and what each payment hands over.

Every device has a barrier cell with six payments of one unit and, for each of the three rounds of copies, three sending
and three receiving cells with one payment each. A barrier payment hands over the places the payee will write on the
payer. A receiving cell's payment hands over the landed piece at its final contents, a sending cell's the source back.
`A d` and `B d` are the two staged operands of device `d`.
-/
module

public import proofs.«01_k».proof.Proof.Sets

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents -/

section Contents
variable (A B : Dev nD → Vec F S512x2048 .bf16)

/-- A fixed element, for places whose contents do not matter. -/
def anyE : Elt F .bf16 := B 0 (fun a => ⟨0, by fin_cases a <;> decide⟩)

/-- The rows of the first operand that device `c` multiplies. -/
abbrev dyR (c : Dev nD) : Rect S512x2048 := Rect.unit (s := S512x2048) (k0_off1 c) S128x2048.size (k0_off1_inb c)
/-- Device `c`'s partial product. -/
def PA (c : Dev nD) : Vec F S128x512 .bf16 := k0_pay2 ((dyM.access (dyR c)).read (Elt F) (A c)) (B c)
/-- Device `c`'s landing buffer once the first round is over: slot `i` is `zs i c`'s piece. -/
def RS (c : Dev nD) : Vec F S3x32x512 .bf16 := fun j =>
  (rsSl (j 0)).view.write (Elt F) (fun _ => anyE B) ((paSl (zs (j 0) c) (j 0)).view.read (Elt F) (PA A B (zs (j 0) c))) Finset.univ j
/-- Device `c`'s 32 rows of the sum. -/
def RED (c : Dev nD) : Vec F S32x512 .bf16 :=
  k0_pay4 (k0_pay3 ((paM.access (paO c)).read (Elt F) (PA A B c)) ((rsM.access (rsR 0)).read (Elt F) (RS A B c))
    ((rsM.access (rsR 1)).read (Elt F) (RS A B c)) ((rsM.access (rsR 2)).read (Elt F) (RS A B c)))
/-- The device whose rows row `j` is among. -/
def rowDev (j : S512x512.Idx) : Dev nD := ⟨(j 0).val / 32, by have : (j 0).val < 512 := (j 0).isLt; show _ < 16; omega⟩
/-- The gathered product: every device's rows. -/
def AG : Vec F S512x512 .bf16 := fun j =>
  (agP (rowDev j)).view.write (Elt F) (fun _ => anyE B) (RED A B (rowDev j)) Finset.univ j

end Contents

/-! ## Cells -/

/-- A device's cells: the barrier's, and those of round, side and copy. -/
abbrev CI : Type := Option (Fin 3 × Bool × Fin 3)
def csem : CI → SemLoc sig
  | none => .reg barS
  | some x => .dma (dsem x.1 x.2.1 x.2.2)
abbrev kcell (ck : Dev nD × CI) : GSem nD τ sig := ((ck.1 : Thread nD τ), csem ck.2)

/-- Which cell a semaphore number is. -/
def decode (q : DmaSem sig) : Option (Fin 3 × Bool × Fin 3) :=
  if h : 3 ≤ q.val then
    some (⟨(q.val - 3) / 6, by have : q.val < 21 := q.isLt; omega⟩, decide (3 ≤ (q.val - 3) % 6), ⟨(q.val - 3) % 3, Nat.mod_lt _ (by decide)⟩)
  else none
theorem decode_dsem : ∀ (p : Fin 3) (r : Bool) (i : Fin 3), decode (dsem p r i) = some (p, r, i) := by decide
theorem csem_inj : Function.Injective csem := by
  intro x y h
  cases x with
  | none => cases y with
    | none => rfl
    | some y => exact absurd h (by simp [csem])
  | some x => cases y with
    | none => exact absurd h (by simp [csem])
    | some y =>
      obtain ⟨p, r, i⟩ := x; obtain ⟨p', r', i'⟩ := y
      have h' : dsem p r i = dsem p' r' i' := by simpa [csem] using h
      have := congrArg decode h'
      rwa [decode_dsem, decode_dsem] at this
theorem kcell_inj : Function.Injective kcell := by
  rintro ⟨c, x⟩ ⟨c', x'⟩ h
  have h1 : c = c' := congrArg (fun g : GSem nD τ sig => g.1.1) h
  have h2 : x = x' := csem_inj (congrArg Prod.snd h)
  rw [h1, h2]

/-! ## Amounts -/

/-- What one copy of round `p` credits. -/
def Nc : Fin 3 → ℕ := ![(rsSl 0).view.dmaCredit, (agP 0).view.dmaCredit, (agB 0).view.dmaCredit]
theorem Nc_pos (p : Fin 3) : 0 < Nc p := by
  fin_cases p
  · exact View.dmaCredit_pos _ (by decide)
  · exact View.dmaCredit_pos _ (by decide)
  · exact View.dmaCredit_pos _ (by decide)
theorem credit_rs (i : Fin 3) : (rsSl i).view.dmaCredit = Nc 0 := rfl
theorem credit_pa (c : Dev nD) (i : Fin 3) : (paSl c i).view.dmaCredit = Nc 0 := rfl
theorem credit_agP (c : Dev nD) : (agP c).view.dmaCredit = Nc 1 := rfl
theorem credit_agB (c : Dev nD) : (agB c).view.dmaCredit = Nc 2 := rfl

/-! ## The schedule -/

/-- Rounds one and two go along the depth axis, round three across the plane. -/
def gb : Fin 3 → Bool := ![false, false, true]

section Sched
variable (A B : Dev nD → Vec F S512x2048 .bf16)

/-- What a payment to `c`'s barrier cell hands over: where `c` will write on the payer. -/
def barPay (c : Dev nD) : Bool × Fin 3 → sProp 𝕄
  | (true, i) => iprop(∃ f, agBPt c (fl i c) fullShare f)
  | (false, i) => iprop((∃ f, rsPt i.rev (zs i c) f) ∗ ∃ f, agPPt c (zs i c) fullShare f)
/-- What a sending cell's payment hands back. -/
def sendPay (c : Dev nD) (p i : Fin 3) : sProp 𝕄 :=
  (![paPt c i fullShare (PA A B c), agPPt c c (sh i) (AG A B), agBPt c c (sh i) (AG A B)] : Fin 3 → sProp 𝕄) p
/-- What a receiving cell's payment hands over. -/
def recvPay (c : Dev nD) (p i : Fin 3) : sProp 𝕄 :=
  (![rsPt i c (RS A B c), agPPt (zs i c) c fullShare (AG A B), agBPt (fl i c) c fullShare (AG A B)] : Fin 3 → sProp 𝕄) p
def dmaPay (c : Dev nD) (x : Fin 3 × Bool × Fin 3) : sProp 𝕄 := if x.2.1 then recvPay A B c x.1 x.2.2 else sendPay A B c x.1 x.2.2

def Rd : Schedule (GSem nD τ sig) (Bool × Fin 3) 𝕄 where
  duties g r := if r = 0 then (match g.2 with
    | .reg _ => Finset.univ
    | .dma q => if (decode q).isSome then {(false, 0)} else ∅) else ∅
  amount g _ _ := match g.2 with
    | .reg _ => 1
    | .dma q => ((decode q).map fun x => Nc x.1).getD 1
  payload g _ d := match g.2 with
    | .reg _ => barPay g.1.1 d
    | .dma q => ((decode q).map fun x => dmaPay A B g.1.1 x).getD iprop(emp)
  amount_pos g _ _ _ := by
    rcases g.2 with q | q
    · exact Nat.one_pos
    · show 0 < ((decode q).map fun x => Nc x.1).getD 1
      cases decode q with
      | none => exact Nat.one_pos
      | some x => exact Nc_pos x.1

instance barPay_storable (c : Dev nD) (d : Bool × Fin 3) : BI.Storable (upEmb : UEmb _ 𝕄) (barPay (F := F) c d) := by
  rcases d with ⟨_ | _, i⟩
  · show BI.Storable upEmb iprop((∃ f, rsPt i.rev (zs i c) f) ∗ ∃ f, agPPt c (zs i c) fullShare f); infer_instance
  · show BI.Storable upEmb iprop(∃ f, agBPt c (fl i c) fullShare f); infer_instance
instance dmaPay_storable (c : Dev nD) (x : Fin 3 × Bool × Fin 3) : BI.Storable (upEmb : UEmb _ 𝕄) (dmaPay (F := F) A B c x) := by
  obtain ⟨p, _ | _, i⟩ := x
  · show BI.Storable upEmb (sendPay A B c p i)
    fin_cases p
    · show BI.Storable upEmb (paPt c i fullShare (PA A B c)); infer_instance
    · show BI.Storable upEmb (agPPt c c (sh i) (AG A B)); infer_instance
    · show BI.Storable upEmb (agBPt c c (sh i) (AG A B)); infer_instance
  · show BI.Storable upEmb (recvPay A B c p i)
    fin_cases p
    · show BI.Storable upEmb (rsPt i c (RS A B c)); infer_instance
    · show BI.Storable upEmb (agPPt (zs i c) c fullShare (AG A B)); infer_instance
    · show BI.Storable upEmb (agBPt (fl i c) c fullShare (AG A B)); infer_instance
instance Rd_storable (g : GSem nD τ sig) (r : ℕ) (d : Bool × Fin 3) : BI.Storable (upEmb : UEmb _ 𝕄) ((Rd (F := F) A B).payload g r d) := by
  obtain ⟨t, q | q⟩ := g
  · show BI.Storable upEmb (barPay t.1 d); infer_instance
  · show BI.Storable upEmb (((decode q).map fun x => dmaPay A B t.1 x).getD iprop(emp))
    cases decode q with
    | none => show BI.Storable upEmb iprop(emp); infer_instance
    | some x => show BI.Storable upEmb (dmaPay A B t.1 x); infer_instance

theorem duties_bar (c : Dev nD) : (Rd A B).duties (kcell (c, none)) 0 = Finset.univ := rfl
theorem duties_dma (c : Dev nD) (p : Fin 3) (r : Bool) (i : Fin 3) : (Rd A B).duties (kcell (c, some (p, r, i))) 0 = {(false, 0)} := by
  show (if (decode (dsem p r i)).isSome then _ else _) = _
  rw [decode_dsem]; rfl
theorem duties_later (g : GSem nD τ sig) : ∀ r, 1 ≤ r → (Rd A B).duties g r = ∅ := fun r hr => if_neg (by omega)
theorem amount_bar (c : Dev nD) (d : Bool × Fin 3) : (Rd A B).amount (kcell (c, none)) 0 d = 1 := rfl
theorem amount_dma (c : Dev nD) (p : Fin 3) (r : Bool) (i : Fin 3) (d : Bool × Fin 3) : (Rd A B).amount (kcell (c, some (p, r, i))) 0 d = Nc p := by
  show ((decode (dsem p r i)).map fun x => Nc x.1).getD 1 = _
  rw [decode_dsem]; rfl
theorem expect_bar (c : Dev nD) : (Rd A B).expect (kcell (c, none)) 0 = 6 := by
  unfold Schedule.expect Schedule.amountOf
  rw [duties_bar, Finset.sum_congr rfl fun d _ => amount_bar A B c d]; rfl
theorem expect_dma (c : Dev nD) (p : Fin 3) (r : Bool) (i : Fin 3) : (Rd A B).expect (kcell (c, some (p, r, i))) 0 = Nc p := by
  unfold Schedule.expect Schedule.amountOf; rw [duties_dma, Finset.sum_singleton, amount_dma]
theorem payload_bar (c : Dev nD) (d : Bool × Fin 3) : (Rd A B).payload (kcell (c, none)) 0 d = barPay c d := rfl
theorem payload_dma (c : Dev nD) (p : Fin 3) (r : Bool) (i : Fin 3) (d : Bool × Fin 3) :
    (Rd A B).payload (kcell (c, some (p, r, i))) 0 d = dmaPay A B c (p, r, i) := by
  show ((decode (dsem p r i)).map fun x => dmaPay A B c x).getD iprop(emp) = _
  rw [decode_dsem]; rfl
theorem rest_dma (c : Dev nD) (p : Fin 3) (r : Bool) (i : Fin 3) :
    bigSep ((Rd A B).duties (kcell (c, some (p, r, i))) 0 \ ∅) (fun d => (Rd A B).payload (kcell (c, some (p, r, i))) 0 d) = dmaPay A B c (p, r, i) := by
  rw [Finset.sdiff_empty, duties_dma, bigSep_singleton, payload_dma]
theorem rest_bar (c : Dev nD) :
    bigSep ((Rd A B).duties (kcell (c, none)) 0 \ ∅) (fun d => (Rd A B).payload (kcell (c, none)) 0 d)
      = iprop(barPay (F := F) c (false, 0) ∗ barPay c (false, 1) ∗ barPay c (false, 2) ∗ barPay c (true, 0) ∗ barPay c (true, 1) ∗ barPay c (true, 2)) := by
  rw [Finset.sdiff_empty, duties_bar]
  exact bigSep_univ_eq_bigSepL [(false, 0), (false, 1), (false, 2), (true, 0), (true, 1), (true, 2)] (by decide) (by decide) _

end Sched

/-! ## Dues and levels -/

/-- The sum of a list of dues, the head peeled first. -/
def Osum : List ((Dev nD × CI) × ℕ) → CellTallies nD τ sig Unit
  | [] => 0
  | x :: l => Osum l + tallyAt (kcell x.1) () x.2

/-- The due to a barrier cell. -/
abbrev bdu (b : Bool) (i : Fin 3) (c : Dev nD) : (Dev nD × CI) × ℕ := ((peer b i c, none), 1)
/-- The due to a receiving cell. -/
abbrev rdu (p i : Fin 3) (c : Dev nD) : (Dev nD × CI) × ℕ := ((peer (gb p) i c, some (p, true, i)), Nc p)
abbrev L3 (c : Dev nD) : List ((Dev nD × CI) × ℕ) := [rdu 2 0 c, rdu 2 1 c, rdu 2 2 c]
abbrev L2 (c : Dev nD) : List ((Dev nD × CI) × ℕ) := rdu 1 0 c :: rdu 1 1 c :: rdu 1 2 c :: L3 c
abbrev L1 (c : Dev nD) : List ((Dev nD × CI) × ℕ) := rdu 0 0 c :: rdu 0 1 c :: rdu 0 2 c :: L2 c
abbrev L0 (c : Dev nD) : List ((Dev nD × CI) × ℕ) :=
  bdu false 0 c :: bdu false 1 c :: bdu false 2 c :: bdu true 0 c :: bdu true 1 c :: bdu true 2 c :: L1 c
/-- What device `c` owes at launch. -/
def O₀ (c : Dev nD) : CellTallies nD τ sig Unit := Osum (L0 c)

/-- Barrier cells at 1, the receiving cells of round `p` at `p + 2`, everything else at 0. -/
def lvC : CI → ℕ
  | none => 1
  | some x => if x.2.1 then x.1.val + 2 else 0
def lv (g : GSem nD τ sig) (_ : Unit) : ℕ := match g.2 with
  | .reg _ => 1
  | .dma q => ((decode q).map fun x => lvC (some x)).getD 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CI) : lv (kcell ck) () = lvC ck.2 := by
  obtain ⟨c, _ | ⟨p, r, i⟩⟩ := ck
  · rfl
  · show ((decode (dsem p r i)).map fun x => lvC (some x)).getD 0 = _
    rw [decode_dsem]; rfl

theorem Osum_pos {l : List ((Dev nD × CI) × ℕ)} {g : GSem nD τ sig} {u : Unit} (h : 0 < Osum l g u) : ∃ x ∈ l, kcell x.1 = g := by
  induction l with
  | nil => exact absurd h (Nat.lt_irrefl 0)
  | cons x l ih =>
    rw [Osum, Pi.add_apply, Finsupp.add_apply, tallyAt_apply] at h
    by_cases hg : g = kcell x.1 ∧ u = ()
    · exact ⟨x, List.mem_cons_self, hg.1.symm⟩
    · rw [if_neg hg, Nat.add_zero] at h
      obtain ⟨y, hy, e⟩ := ih h
      exact ⟨y, List.mem_cons_of_mem _ hy, e⟩

theorem mayWait (c : Dev nD) (sm : SemLoc sig) (n : ℕ) (l : List ((Dev nD × CI) × ℕ)) (hsm : lv ((c : Thread nD τ), sm) () ≤ n)
    (hl : ∀ x ∈ l, n < lvC x.1.2) : (levAts L lv : sProp 𝕄) ⊢ MayWait (c : Thread nD τ) sm () (Osum l) :=
  MayOwe.of_cut (L := L) (lev := lv) n (fun p hp => by rw [Finset.mem_singleton.mp hp, L_tc]; exact Finset.mem_singleton_self _)
    (fun g u hg => by obtain ⟨x, _, rfl⟩ := Osum_pos hg; rw [L_tc]; exact Finset.mem_singleton_self _)
    (fun p hp => by rw [Finset.mem_singleton.mp hp]; exact hsm)
    (fun g u hg => by obtain ⟨x, hx, rfl⟩ := Osum_pos hg; cases u; rw [lv_kcell]; exact hl x hx)

theorem lev3 (c : Dev nD) : ∀ x ∈ L3 c, 3 < lvC x.1.2 := by simp [lvC]
theorem lev2 (c : Dev nD) : ∀ x ∈ L2 c, 2 < lvC x.1.2 := by simp [lvC]
theorem lev1 (c : Dev nD) : ∀ x ∈ L1 c, 1 < lvC x.1.2 := by simp [lvC]
theorem lev0 (c : Dev nD) : ∀ x ∈ L0 c, 0 < lvC x.1.2 := by simp [lvC]

end Cert.KernelIdeal.Run
-- ==== Proof.Steps.lean ====
/-
The steps of the exchange: a signal, the barrier's wait, the start of a copy, and a wait for a copy. Each is stated once,
for every device, peer and round.
-/
module

public import proofs.«01_k».proof.Proof.Sched

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device holds -/

abbrev 𝒱₀ : Variants := Variants.none

section Ghost
variable (A B : Dev nD → Vec F S512x2048 .bf16) (K : Dev nD × CI → ℕ)

/-- Every cell's invariant and that every cell has been reached. -/
def records : sProp 𝕄 :=
  iprop((bigSep Finset.univ fun ck : Dev nD × CI => cellInv ER (Rd A B) (K ck) (kcell ck))
    ∗ bigSep Finset.univ fun ck : Dev nD × CI => reached ER (kcell ck) 0)
instance records_persistent : BI.Persistent (records A B K) := by unfold records; infer_instance

theorem inv_at (ck : Dev nD × CI) : records A B K ⊢ cellInv ER (Rd A B) (K ck) (kcell ck) := by
  unfold records
  exact sep_elim_left.trans (bigSep_elim (Finset.mem_univ ck))
theorem reached_at (ck : Dev nD × CI) : records A B K ⊢ reached ER (kcell ck) 0 := by
  unfold records
  exact sep_elim_right.trans (bigSep_elim (Finset.mem_univ ck))

/-- The barrier's six payments, the cell written out. -/
theorem rest_bar' (c : Dev nD) :
    bigSep ((Rd A B).duties ((c : Thread nD τ), .reg barS) 0 \ ∅) (fun d => (Rd A B).payload ((c : Thread nD τ), .reg barS) 0 d)
      = iprop(barPay (F := F) c (false, 0) ∗ barPay c (false, 1) ∗ barPay c (false, 2) ∗ barPay c (true, 0) ∗ barPay c (true, 1) ∗ barPay c (true, 2)) :=
  rest_bar A B c
/-- A copy cell's payment, the cell written out. -/
theorem rest_dma' (c : Dev nD) (p : Fin 3) (r : Bool) (i : Fin 3) :
    bigSep ((Rd A B).duties ((c : Thread nD τ), .dma (dsem p r i)) 0 \ ∅) (fun d => (Rd A B).payload ((c : Thread nD τ), .dma (dsem p r i)) 0 d)
      = dmaPay A B c (p, r, i) :=
  rest_dma A B c p r i

theorem duty_mem (c : Dev nD) (p : Fin 3) (r : Bool) (i : Fin 3) : (false, 0) ∈ (Rd A B).duties (kcell (c, some (p, r, i))) 0 := by
  rw [duties_dma A B c p r i]; exact Finset.mem_singleton_self _

/-- What device `c` still owes, whatever it has waited for. -/
def owesA (c : Dev nD) (l : List ((Dev nD × CI) × ℕ)) : sProp 𝕄 := iprop(∃ W, owes (c : Thread nD τ) (Osum l) W)

/-- What device `c` needs for copy `i` of round `p`: where it stands at its two cells, the two payments it makes, and
    the credit of the copy it receives. -/
def unit (p i : Fin 3) (c : Dev nD) : sProp 𝕄 :=
  iprop(atPos ER (kcell (c, some (p, false, i))) 0 ∅ 0 ∗ atPos ER (kcell (c, some (p, true, i))) 0 ∅ 0
    ∗ dutyTok ER (kcell (c, some (p, false, i))) 0 (false, 0) ∗ dutyTok ER (kcell (peer (gb p) i c, some (p, true, i))) 0 (false, 0)
    ∗ cred (tallyAt (kcell (c, some (p, true, i))) () (Nc p)))
/-- The same once the copy has been started. -/
def mid (p i : Fin 3) (c : Dev nD) : sProp 𝕄 :=
  iprop(atPos ER (kcell (c, some (p, false, i))) 0 ∅ 0 ∗ atPos ER (kcell (c, some (p, true, i))) 0 ∅ 0
    ∗ cred (tallyAt (kcell (c, some (p, false, i))) () (Nc p)) ∗ cred (tallyAt (kcell (c, some (p, true, i))) () (Nc p)))
/-- The same once both waits are over. -/
def fin (p i : Fin 3) (c : Dev nD) : sProp 𝕄 :=
  iprop(semVal (kcell (c, some (p, false, i))) 0 ∗ semVal (kcell (c, some (p, true, i))) 0)

/-! ## The steps -/

variable (c : Dev nD) {α : Type}

/-- A signal pays one duty of the peer's barrier cell. -/
theorem step_signal (b : Bool) (i : Fin 3) (l : List ((Dev nD × CI) × ℕ)) {k : PUnit → Prog (TpuEff nD τ sig (Elt F) Λ₀ .tc) α} {Q : α → sProp 𝕄} :
    iprop(records A B K ∗ owesA c (bdu b i c :: l) ∗ dutyTok ER (kcell (peer b i c, none)) 0 (b, i) ∗ barPay (peer b i c) (b, i))
      ⊢ iprop((owesA c l -∗ wp frame (wpE (defs₀ (F := F)) 𝒱₀ (c : Thread nD τ) none) Set.univ (k ⟨⟩) Q)
          -∗ wp frame (wpE (defs₀ (F := F)) 𝒱₀ (c : Thread nD τ) none) Set.univ (Prog.op (.semSignal (peer b i c, .tc) barS (1 : ℕ)) k) Q) := by
  unfold owesA
  iintro ⟨#HR, ⟨%W, HO⟩, Ht, Hp⟩ Hk
  iapply (Rounds.wp_signal 𝒱₀ ER (Rd A B) (c : Thread nD τ) none (dst := (peer b i c : Thread nD τ)) (κ := K (peer b i c, none))
      (r := 0) (d := (b, i)) (Finset.mem_univ _) (amount_bar A B (peer b i c) (b, i)) () (Osum l) rfl) $$ [HO Ht Hp]
  · isplitr; · iapply (inv_at A B K (peer b i c, none)); iexact HR
    isplitl [HO]; · iexact HO
    isplitl [Ht]; · iexact Ht
    isplitl [Hp]; · rw [show (Rd A B).payload ((peer b i c : Thread nD τ), .reg barS) 0 (b, i) = barPay (peer b i c) (b, i) from rfl]; iexact Hp
    iapply (reached_at A B K (peer b i c, none)); iexact HR
  iintro HO
  iapply Hk; iexists W; iexact HO

/-- The wait for all six signals. -/
theorem step_bar (l : List ((Dev nD × CI) × ℕ)) (hl : ∀ x ∈ l, 1 < lvC x.1.2) {k : PUnit → Prog (TpuEff nD τ sig (Elt F) Λ₀ .tc) α} {Q : α → sProp 𝕄} :
    iprop(records A B K ∗ levAts L lv ∗ owesA c l ∗ cred (tallyAt (kcell (c, none)) () 6) ∗ atPos ER (kcell (c, none)) 0 ∅ 0)
      ⊢ iprop(((owesA c l ∗ semVal (kcell (c, none)) 0
              ∗ (barPay c (false, 0) ∗ barPay c (false, 1) ∗ barPay c (false, 2) ∗ barPay c (true, 0) ∗ barPay c (true, 1) ∗ barPay c (true, 2)))
            -∗ wp frame (wpE (defs₀ (F := F)) 𝒱₀ (c : Thread nD τ) none) Set.univ (k ⟨⟩) Q)
          -∗ wp frame (wpE (defs₀ (F := F)) 𝒱₀ (c : Thread nD τ) none) Set.univ (Prog.op (.semWait barS (6 : ℕ)) k) Q) := by
  unfold owesA
  iintro ⟨#HR, #Hlev, ⟨%W, HO⟩, Hc, Hat⟩ Hk
  ihave #HI := (inv_at A B K (c, none)) $$ HR
  iapply (Rounds.wp_wait_rest_token 𝒱₀ ER (Rd A B) (c : Thread nD τ) none (κ := K (c, none))
      (wpE_semWait_eq 𝒱₀ (c : Thread nD τ) none Set.univ) (Set.mem_univ _) () (O := Osum l) (W := W) (R := 0) (m := 0) (T := ∅)
      ((Nat.zero_add 6).trans (expect_bar A B c).symm)) $$ [Hc HO Hat]
  · isplitr; · iexact HI
    isplitl [Hc]; · iexact Hc
    isplitl [HO]; · iexact HO
    isplitr; · iapply (mayWait c (.reg barS) 1 l (le_refl 1) hl); iexact Hlev
    iexact Hat
  iintro ⟨HO, Hat, -, Hpay⟩
  ihave Hp := (Entails.of_eq (rest_bar' A B c)) $$ Hpay
  imod (Rounds.cell_close ER (Rd A B) (Set.mem_univ (K (c, none))) (fun h => h) (R := 0 + 1) (duties_later A B (kcell (c, none)))) $$ [Hat] with Hz
  · isplitr; · iexact HI
    iexact Hat
  iapply Hk
  isplitl [HO]; · iexists _; iexact HO
  isplitl [Hz]; · iexact Hz
  iexact Hp

/-- A wait on one of the device's copy cells. -/
theorem step_wait (p : Fin 3) (r : Bool) (i : Fin 3) (l : List ((Dev nD × CI) × ℕ)) (hl : ∀ x ∈ l, lvC (some (p, r, i)) < lvC x.1.2)
    {sp sp' : Space} {s s' : Shape} {e e' : EltTy} {src : Memref sig .tc sp s e} {dst : Memref sig .tc sp' s' e'} {hs : _} {hd : _}
    (hN : dst.view.dmaCredit = Nc p) {k : PUnit → Prog (TpuEff nD τ sig (Elt F) Λ₀ .tc) α} {Q : α → sProp 𝕄} :
    iprop(records A B K ∗ levAts L lv ∗ owesA c l ∗ cred (tallyAt (kcell (c, some (p, r, i))) () (Nc p)) ∗ atPos ER (kcell (c, some (p, r, i))) 0 ∅ 0)
      ⊢ iprop(((owesA c l ∗ semVal (kcell (c, some (p, r, i))) 0 ∗ dmaPay A B c (p, r, i))
            -∗ wp frame (wpE (defs₀ (F := F)) 𝒱₀ (c : Thread nD τ) none) Set.univ (k ⟨⟩) Q)
          -∗ wp frame (wpE (defs₀ (F := F)) 𝒱₀ (c : Thread nD τ) none) Set.univ (Prog.op (.waitDma2 (dsem p r i) src dst hs hd) k) Q) := by
  unfold owesA
  iintro ⟨#HR, #Hlev, ⟨%W, HO⟩, Hc, Hat⟩ Hk
  ihave #HI := (inv_at A B K (c, some (p, r, i))) $$ HR
  iapply (Rounds.wp_wait_rest_token 𝒱₀ ER (Rd A B) (c : Thread nD τ) none (κ := K (c, some (p, r, i)))
      (wpE_waitDma2_eq 𝒱₀ (c : Thread nD τ) none Set.univ) (Set.mem_univ _) () (O := Osum l) (W := W) (R := 0) (m := 0) (T := ∅)
      ((Nat.zero_add _).trans (hN.trans (expect_dma A B c p r i).symm))) $$ [Hc HO Hat]
  · isplitr; · iexact HI
    isplitl [Hc]; · rw [hN]; iexact Hc
    isplitl [HO]; · iexact HO
    isplitr; · iapply (mayWait c (.dma (dsem p r i)) _ l (le_of_eq (lv_kcell (c, some (p, r, i)))) hl); iexact Hlev
    iexact Hat
  iintro ⟨HO, Hat, -, Hpay⟩
  ihave Hp := (Entails.of_eq (rest_dma' A B c p r i)) $$ Hpay
  imod (Rounds.cell_close ER (Rd A B) (Set.mem_univ (K (c, some (p, r, i)))) (fun h => h) (R := 0 + 1)
      (duties_later A B (kcell (c, some (p, r, i))))) $$ [Hat] with Hz
  · isplitr; · iexact HI
    iexact Hat
  iapply Hk
  isplitl [HO]; · iexists _; iexact HO
  isplitl [Hz]; · iexact Hz
  iexact Hp

/-- The start of a copy to a peer. -/
theorem step_send (p i : Fin 3) (l : List ((Dev nD × CI) × ℕ)) {d : Dev nD} (hd : d = peer (gb p) i c) {sp sp' : Space} {s : Shape} {e : EltTy}
    {src : Memref sig .tc sp s e} {dst : Memref sig .tc sp' s e} {hsc : _} {hsrc : _} {hdst : _} {hsem : _}
    (hN : dst.view.dmaCredit = Nc p) (q : PosShare TreeShare) (fs : Buf (Elt F) (src.view.loc (c : Thread nD τ)))
    (fd : Buf (Elt F) (dst.view.loc (peer (gb p) i c : Thread nD τ)))
    (h₁ : (src.view.loc (c : Thread nD τ) ↦[src.view.set]{q} fs) ⊢ (sendPay A B c p i : sProp 𝕄))
    (h₂ : (dst.view.loc (peer (gb p) i c : Thread nD τ) ↦[dst.view.set]{fullShare} dst.view.write (Elt F) fd (src.view.read (Elt F) fs) Finset.univ)
      ⊢ (recvPay A B (peer (gb p) i c) p i : sProp 𝕄))
    {k : PUnit → Prog (TpuEff nD τ sig (Elt F) Λ₀ .tc) α} {Q : α → sProp 𝕄} :
    iprop(records A B K ∗ owesA c (rdu p i c :: l) ∗ unit p i c ∗ (src.view.loc (c : Thread nD τ) ↦[src.view.set]{q} fs)
        ∗ (dst.view.loc (peer (gb p) i c : Thread nD τ) ↦[dst.view.set]{fullShare} fd))
      ⊢ iprop(((owesA c l ∗ mid p i c) -∗ wp frame (wpE (defs₀ (F := F)) 𝒱₀ (c : Thread nD τ) none) Set.univ (k ⟨⟩) Q)
          -∗ wp frame (wpE (defs₀ (F := F)) 𝒱₀ (c : Thread nD τ) none) Set.univ
              (Prog.op (.enqueueDma src (.remote (Dev.tc d) dst (.dma (dsem p false i)) hsc) (.dma (dsem p true i)) hsrc hdst hsem) k) Q) := by
  subst hd
  unfold owesA unit mid
  iintro ⟨#HR, ⟨%W, HO⟩, ⟨HatS, HatV, HtS, HtV, HcV⟩, Hs, Hd⟩ Hk
  iapply (Rounds.wp_send_pointsTo 𝒱₀ ER (Rd A B) (c : Thread nD τ) none (κ₁ := K (c, some (p, false, i))) (κ₂ := K (peer (gb p) i c, some (p, true, i)))
      (r₁ := 0) (r₂ := 0) (d₁ := (false, 0)) (d₂ := (false, 0)) (fd := fd) (fs := fs) (q := q)
      (duty_mem A B c p false i)
      (duty_mem A B (peer (gb p) i c) p true i)
      () () (Nc p) (show dst.view.amount (.dma (dsem p true i)) = Nc p from hN) (amount_dma A B c p false i _) (amount_dma A B (peer (gb p) i c) p true i _) (Osum l) rfl (W := W)
      (h₁.trans (Entails.of_eq (payload_dma A B c p false i _).symm))
      (h₂.trans (Entails.of_eq (payload_dma A B (peer (gb p) i c) p true i _).symm))) $$ [HO HtS HtV Hs Hd]
  · isplitr; · iapply (inv_at A B K (c, some (p, false, i))); iexact HR
    isplitr; · iapply (inv_at A B K (peer (gb p) i c, some (p, true, i))); iexact HR
    isplitl [Hs]; · iexact Hs
    isplitl [Hd]; · iexact Hd
    isplitl [HO]; · iexact HO
    isplitl [HtS]; · iexact HtS
    isplitr; · iapply (reached_at A B K (c, some (p, false, i))); iexact HR
    isplitl [HtV]; · iexact HtV
    iapply (reached_at A B K (peer (gb p) i c, some (p, true, i))); iexact HR
  iintro ⟨HcS, HO⟩
  iapply Hk
  isplitl [HO]; · iexists W; iexact HO
  isplitl [HatS]; · iexact HatS
  isplitl [HatV]; · iexact HatV
  isplitl [HcS] <;> iassumption

end Ghost

end Cert.KernelIdeal.Run
-- ==== Proof.Pieces.lean ====
/-
The pieces of the program: what copies leave where they land, and each piece with what it takes and gives.
-/
module

public import proofs.«01_k».proof.Proof.Steps

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where copies land -/

section Landing
omit [FloatOps F]

/-- Writing back what a view reads leaves the view's elements at what was read. -/
theorem write_read_at {r : Ref sig .tc} {cs : CoreSpace} {s : Shape} {e : EltTy} (v : View sig .tc cs s e) (f fd : v.ty.Contents (Elt F)) :
    ∀ j ∈ v.set, v.write (Elt F) fd (v.read (Elt F) f) Finset.univ j = f j := by
  intro j hj
  obtain ⟨x, -, rfl⟩ := Finset.mem_map.mp hj
  rw [View.write_emb_of_mem _ _ (Finset.mem_univ x), View.read_apply]
  exact eq_of_heq ((cast_heq _ _).trans (cast_heq _ _))
/-- On a view's elements, a write through it does not depend on what was there. -/
theorem write_over {cs : CoreSpace} {s : Shape} {e : EltTy} (v : View sig .tc cs s e) (f f' : v.ty.Contents (Elt F)) (w : s.Idx → Elt F e) :
    ∀ j ∈ v.set, v.write (Elt F) f w Finset.univ j = v.write (Elt F) f' w Finset.univ j := by
  intro j hj
  obtain ⟨x, -, rfl⟩ := Finset.mem_map.mp hj
  rw [View.write_emb_of_mem _ _ (Finset.mem_univ x), View.write_emb_of_mem _ _ (Finset.mem_univ x)]

/-- A write through rows of the gathered product, by the rows' offset. -/
theorem write_off {o o' : Fin 2 → ℕ} (e : o = o') (h : ∀ a, o a + S32x512.size a ≤ S512x512.size a) (h' : ∀ a, o' a + S32x512.size a ≤ S512x512.size a)
    (f : Vec F S512x512 .bf16) (w : Vec F S32x512 .bf16) :
    (agM.access (Rect.unit (s := S512x512) o S32x512.size h)).write (Elt F) f w Finset.univ
      = (agM.access (Rect.unit (s := S512x512) o' S32x512.size h')).write (Elt F) f w Finset.univ := by
  subst e; rfl
theorem set_off {o o' : Fin 2 → ℕ} (e : o = o') (h : ∀ a, o a + S32x512.size a ≤ S512x512.size a) (h' : ∀ a, o' a + S32x512.size a ≤ S512x512.size a) :
    (agM.access (Rect.unit (s := S512x512) o S32x512.size h)).set = (agM.access (Rect.unit (s := S512x512) o' S32x512.size h')).set := by
  subst e; rfl

end Landing

section Pieces
variable (A B : Dev nD → Vec F S512x2048 .bf16)

/-- What slot `i` of `t`'s landing buffer ends up as. -/
def RSat (t : Dev nD) (i : Fin 3) : Vec F S3x32x512 .bf16 :=
  (rsSl i).view.write (Elt F) (fun _ => anyE B) ((paSl (zs i t) i).view.read (Elt F) (PA A B (zs i t))) Finset.univ
theorem RS_at (t : Dev nD) (i : Fin 3) (j : S3x32x512.Idx) (h : j ∈ (rsSl i).view.set) : RS A B t j = RSat A B t i j := by
  have e : j 0 = i := Fin.ext ((mem_rsR i j).1 (set_rsSl i ▸ h))
  show RSat A B t (j 0) j = _
  rw [e]
theorem AG_at (s : Dev nD) (j : S512x512.Idx) (h : j ∈ (agP s).view.set) :
    AG A B j = (agP s).view.write (Elt F) (fun _ => anyE B) (RED A B s) Finset.univ j := by
  have e : rowDev j = s := Fin.ext ((mem_agPR s j).1 (set_agP s ▸ h))
  show (agP (rowDev j)).view.write (Elt F) (fun _ => anyE B) (RED A B (rowDev j)) Finset.univ j = _
  rw [e]

theorem land1 (c : Dev nD) (i : Fin 3) (fd : Vec F S3x32x512 .bf16) :
    ((rsSl i).view.loc (zt i c : Thread nD τ) ↦[(rsSl i).view.set]{fullShare}
        (rsSl i).view.write (Elt F) fd ((paSl c i).view.read (Elt F) (PA A B c)) Finset.univ : sProp 𝕄)
      ⊢ rsPt i (zt i c) (RS A B (zt i c)) := by
  refine Entails.of_eq (pointsTo_congr fun j hj => ?_)
  rw [RS_at A B (zt i c) i j hj]; unfold RSat; rw [zs_zt]
  exact write_over _ _ _ _ j hj
theorem land2 (c d : Dev nD) (fd : Vec F S512x512 .bf16) :
    ((agP c).view.loc (d : Thread nD τ) ↦[(agP c).view.set]{fullShare}
        (agP c).view.write (Elt F) fd ((agP c).view.read (Elt F) (AG A B)) Finset.univ : sProp 𝕄) ⊢ agPPt c d fullShare (AG A B) :=
  Entails.of_eq (pointsTo_congr fun j hj => write_read_at (r := cc0_scratch2) _ _ _ j hj)
theorem land3 (c d : Dev nD) (fd : Vec F S512x512 .bf16) :
    ((agB c).view.loc (d : Thread nD τ) ↦[(agB c).view.set]{fullShare}
        (agB c).view.write (Elt F) fd ((agB c).view.read (Elt F) (AG A B)) Finset.univ : sProp 𝕄) ⊢ agBPt c d fullShare (AG A B) :=
  Entails.of_eq (pointsTo_congr fun j hj => write_read_at (r := cc0_scratch2) _ _ _ j hj)
/-- The rows of the own sum, stored, are the gathered product's. -/
theorem stored (c : Dev nD) (f : Vec F S512x512 .bf16) :
    ((agM.access (Rect.unit (s := S512x512) (k0_off4 c) S32x512.size (k0_off4_inb c))).loc (c : Thread nD τ) ↦[(agP c).view.set]{fullShare}
        (agM.access (Rect.unit (s := S512x512) (k0_off4 c) S32x512.size (k0_off4_inb c))).write (Elt F) f (RED A B c) Finset.univ : sProp 𝕄)
      ⊢ agPPt c c fullShare (AG A B) := by
  refine Entails.of_eq (pointsTo_congr fun j hj => ?_)
  rw [AG_at A B c j hj, write_off (off45 c) _ (k0_off5_inb c)]
  exact write_over _ _ _ _ j hj

/-! ## The barrier's payments, from both ends -/

/-- What `c` gives its successor `zt i c`: the slot it will land in and its rows. -/
def zgive (i : Fin 3) (c : Dev nD) : sProp 𝕄 := iprop((∃ f, rsPt i.rev c f) ∗ ∃ f, agPPt (zt i c) c fullShare f)
/-- What `c` gives `fl i c`: that device's block. -/
def pgive (i : Fin 3) (c : Dev nD) : sProp 𝕄 := iprop(∃ f, agBPt (fl i c) c fullShare f)
/-- What `c` gets for its copies to `zt i c`. -/
def zgot (i : Fin 3) (c : Dev nD) : sProp 𝕄 := iprop((∃ f, rsPt i (zt i c) f) ∗ ∃ f, agPPt c (zt i c) fullShare f)
/-- What `c` gets for its copy to `fl i c`. -/
def pgot (i : Fin 3) (c : Dev nD) : sProp 𝕄 := iprop(∃ f, agBPt c (fl i c) fullShare f)

theorem pay_z (i : Fin 3) (c : Dev nD) : barPay (F := F) (peer false i c) (false, i) = zgive i c := by
  show iprop((∃ f, rsPt i.rev (zs i (zt i c)) f) ∗ ∃ f, agPPt (zt i c) (zs i (zt i c)) fullShare f) = _
  rw [zs_zt]; rfl
theorem pay_p (i : Fin 3) (c : Dev nD) : barPay (F := F) (peer true i c) (true, i) = pgive i c := by
  show iprop(∃ f, agBPt (fl i c) (fl i (fl i c)) fullShare f) = _
  rw [fl_fl]; rfl
theorem got_z (i : Fin 3) (c : Dev nD) : barPay (F := F) c (false, i.rev) = zgot i c := by
  show iprop((∃ f, rsPt i.rev.rev (zs i.rev c) f) ∗ ∃ f, agPPt c (zs i.rev c) fullShare f) = _
  rw [← zt_rev, Fin.rev_rev]; rfl
theorem got_p (i : Fin 3) (c : Dev nD) : barPay (F := F) c (true, i) = pgot i c := rfl
end Pieces

/-! ## The pieces of the program -/

/-- A program's run on device `c`. -/
abbrev wpc (c : Dev nD) (k : PR F) (Q : PUnit → sProp 𝕄) : sProp 𝕄 :=
  wp frame (wpE (defs₀ (F := F)) 𝒱₀ (c : Thread nD τ) none) Set.univ k Q

section Prog
variable (A B : Dev nD → Vec F S512x2048 .bf16) (K : Dev nD × CI → ℕ) (c : Dev nD)

/-- The six payments `c` makes to barrier cells. -/
def barToks : sProp 𝕄 :=
  iprop(dutyTok ER (kcell (peer false 0 c, none)) 0 (false, 0) ∗ dutyTok ER (kcell (peer false 1 c, none)) 0 (false, 1)
    ∗ dutyTok ER (kcell (peer false 2 c, none)) 0 (false, 2) ∗ dutyTok ER (kcell (peer true 0 c, none)) 0 (true, 0)
    ∗ dutyTok ER (kcell (peer true 1 c, none)) 0 (true, 1) ∗ dutyTok ER (kcell (peer true 2 c, none)) 0 (true, 2))

theorem bar_spec {k : PR F} {Q : PUnit → sProp 𝕄} :
    iprop(records A B K ∗ levAts L lv ∗ owesA c (L0 c) ∗ barToks c ∗ cred (tallyAt (kcell (c, none)) () 6) ∗ atPos ER (kcell (c, none)) 0 ∅ 0
        ∗ zgive 0 c ∗ zgive 1 c ∗ zgive 2 c ∗ pgive 0 c ∗ pgive 1 c ∗ pgive 2 c)
      ⊢ iprop(((owesA c (L1 c) ∗ semVal (kcell (c, none)) 0 ∗ zgot 0 c ∗ zgot 1 c ∗ zgot 2 c ∗ pgot 0 c ∗ pgot 1 c ∗ pgot 2 c) -∗ wpc c k Q)
          -∗ wpc c (pBar (dv c) k) Q) := by
  unfold barToks pBar
  iintro ⟨#HR, #Hlev, HO, ⟨Ht0, Ht1, Ht2, Ht3, Ht4, Ht5⟩, Hc, Hat, Hg0, Hg1, Hg2, Hg3, Hg4, Hg5⟩ Hk
  iapply (step_signal A B K c false 0 _) $$ [HO Ht0 Hg0]
  · isplitr; · iexact HR
    isplitl [HO]; · iexact HO
    isplitl [Ht0]; · iexact Ht0
    rw [pay_z]; iexact Hg0
  iintro HO
  iapply (step_signal A B K c false 1 _) $$ [HO Ht1 Hg1]
  · isplitr; · iexact HR
    isplitl [HO]; · iexact HO
    isplitl [Ht1]; · iexact Ht1
    rw [pay_z]; iexact Hg1
  iintro HO
  iapply (step_signal A B K c false 2 _) $$ [HO Ht2 Hg2]
  · isplitr; · iexact HR
    isplitl [HO]; · iexact HO
    isplitl [Ht2]; · iexact Ht2
    rw [pay_z]; iexact Hg2
  iintro HO
  iapply (step_signal A B K c true 0 _) $$ [HO Ht3 Hg3]
  · isplitr; · iexact HR
    isplitl [HO]; · iexact HO
    isplitl [Ht3]; · iexact Ht3
    rw [pay_p]; iexact Hg3
  iintro HO
  iapply (step_signal A B K c true 1 _) $$ [HO Ht4 Hg4]
  · isplitr; · iexact HR
    isplitl [HO]; · iexact HO
    isplitl [Ht4]; · iexact Ht4
    rw [pay_p]; iexact Hg4
  iintro HO
  iapply (step_signal A B K c true 2 _) $$ [HO Ht5 Hg5]
  · isplitr; · iexact HR
    isplitl [HO]; · iexact HO
    isplitl [Ht5]; · iexact Ht5
    rw [pay_p]; iexact Hg5
  iintro HO
  iapply (step_bar A B K c (L1 c) (lev1 c)) $$ [HO Hc Hat]
  · isplitr; · iexact HR
    isplitr; · iexact Hlev
    isplitl [HO]; · iexact HO
    isplitl [Hc] <;> iassumption
  iintro ⟨HO, Hz, H0, H1, H2, H3, H4, H5⟩
  iapply Hk
  isplitl [HO]; · iexact HO
  isplitl [Hz]; · iexact Hz
  isplitl [H2]; · rw [← got_z 0 c]; iexact H2
  isplitl [H1]; · rw [← got_z 1 c]; iexact H1
  isplitl [H0]; · rw [← got_z 2 c]; iexact H0
  isplitl [H3]; · rw [← got_p 0 c]; iexact H3
  isplitl [H4]; · rw [← got_p 1 c]; iexact H4
  rw [← got_p 2 c]; iexact H5

theorem hz2 : (![0, 0] : Fin 2 → Nat) = fun _ => 0 := funext fun a => by fin_cases a <;> rfl

theorem part_spec {k : PR F} {Q : PUnit → sProp 𝕄} :
    iprop(((c : Thread nD τ).loc cc0_stg0_0 ↦{fullShare} A c) ∗ ((c : Thread nD τ).loc cc0_stg1_0 ↦{fullShare} B c)
        ∗ ∃ f : Vec F S128x512 .bf16, ((c : Thread nD τ).loc cc0_scratch0 ↦{fullShare} f))
      ⊢ iprop(((((c : Thread nD τ).loc cc0_stg0_0 ↦{fullShare} A c) ∗ ((c : Thread nD τ).loc cc0_stg1_0 ↦{fullShare} B c)
            ∗ ((c : Thread nD τ).loc cc0_scratch0 ↦{fullShare} PA A B c)) -∗ wpc c k Q)
          -∗ wpc c (pPart c k) Q) := by
  unfold pPart
  iintro ⟨HA, HB, ⟨%f, HP⟩⟩ Hk
  iapply (wp_load_rect 𝒱₀ (c : Thread nD τ) none Set.univ (m := dyM) (r := dyR c) (Finset.subset_univ _)) $$ HA; iintro HA
  iapply (wp_load 𝒱₀ (c : Thread nD τ) none Set.univ (m := wM) (Finset.subset_univ _)) $$ HB; iintro HB
  rw [show (wM.view.readAt (Elt F) (Rect.unit (s := S512x2048) ![0, 0] S512x2048.size inb_S512x2048_S512x2048_0_0).toLoadRect (B c)) = B c
    from Memref.readAt_unit_zero (Elt F) cc0_stg1_0 hz2 _ _]
  iapply (wp_load 𝒱₀ (c : Thread nD τ) none Set.univ (m := paM) (Finset.subset_univ _)) $$ HP; iintro HP
  iapply (wp_store 𝒱₀ (c : Thread nD τ) none Set.univ (m := paM) (r := Rect.unit (s := S128x512) ![0, 0] S128x512.size inb_S128x512_S128x512_0_0) (Mk := Finset.univ) (Finset.subset_univ _)) $$ HP; iintro HP
  rw [show ((paM.access (Rect.unit (s := S128x512) ![0, 0] S128x512.size inb_S128x512_S128x512_0_0)).write (Elt F) f
      (k0_pay2 ((dyM.access (dyR c)).read (Elt F) (A c)) (B c)) Finset.univ) = PA A B c
    from Memref.write_access_unit_zero_univ (Elt F) cc0_scratch0 hz2 _ f _]
  iapply Hk
  isplitl [HA]; · iexact HA
  isplitl [HB] <;> iassumption

theorem red_spec {k : PR F} {Q : PUnit → sProp 𝕄} :
    iprop(paOPt c (PA A B c) ∗ rsPt 0 c (RS A B c) ∗ rsPt 1 c (RS A B c) ∗ rsPt 2 c (RS A B c) ∗ ∃ f, agPPt c c fullShare f)
      ⊢ iprop(((paOPt c (PA A B c) ∗ rsPt 0 c (RS A B c) ∗ rsPt 1 c (RS A B c) ∗ rsPt 2 c (RS A B c) ∗ agPPt c c fullShare (AG A B)) -∗ wpc c k Q)
          -∗ wpc c (pRed c k) Q) := by
  unfold pRed
  have hrs : ∀ i : Fin 3, (rsM.access (rsR i)).set ⊆ (rsSl i).view.set := fun i =>
    le_of_eq ((View.set_slice_whole cc0_scratch1 (rsR i)).trans (set_rsSl i).symm)
  have hag : (agM.access (Rect.unit (s := S512x512) (k0_off4 c) S32x512.size (k0_off4_inb c))).set = (agP c).view.set :=
    set_off (off45 c) _ (k0_off5_inb c)
  iintro ⟨HP, H0, H1, H2, ⟨%f, HG⟩⟩ Hk
  iapply (wp_load_rect 𝒱₀ (c : Thread nD τ) none Set.univ (m := paM) (r := paO c) (le_of_eq (View.set_slice_whole cc0_scratch0 (paO c)))) $$ HP; iintro HP
  iapply (wp_load_rect 𝒱₀ (c : Thread nD τ) none Set.univ (m := rsM) (r := rsR 0) (hrs 0)) $$ H0; iintro H0
  iapply (wp_load_rect 𝒱₀ (c : Thread nD τ) none Set.univ (m := rsM) (r := rsR 1) (hrs 1)) $$ H1; iintro H1
  iapply (wp_load_rect 𝒱₀ (c : Thread nD τ) none Set.univ (m := rsM) (r := rsR 2) (hrs 2)) $$ H2; iintro H2
  iapply (wp_load_rect 𝒱₀ (c : Thread nD τ) none Set.univ (m := agM) (r := Rect.unit (s := S512x512) (k0_off4 c) S32x512.size (k0_off4_inb c)) (le_of_eq hag)) $$ HG; iintro HG
  iapply (wp_store 𝒱₀ (c : Thread nD τ) none Set.univ (m := agM) (r := Rect.unit (s := S512x512) (k0_off4 c) S32x512.size (k0_off4_inb c)) (Mk := Finset.univ) (le_of_eq hag)) $$ HG; iintro HG
  rw [show k0_pay4 (k0_pay3 ((paM.access (paO c)).read (Elt F) (PA A B c)) ((rsM.access (rsR 0)).read (Elt F) (RS A B c))
    ((rsM.access (rsR 1)).read (Elt F) (RS A B c)) ((rsM.access (rsR 2)).read (Elt F) (RS A B c))) = RED A B c from rfl]
  ihave HG := (stored A B c f) $$ HG
  iapply Hk
  isplitl [HP]; · iexact HP
  isplitl [H0]; · iexact H0
  isplitl [H1]; · iexact H1
  isplitl [H2] <;> iassumption

theorem out_spec (g : Vec F S512x512 .bf16) {k : PR F} {Q : PUnit → sProp 𝕄} :
    iprop(((c : Thread nD τ).loc cc0_scratch2 ↦{fullShare} g) ∗ ∃ f : Vec F S512x512 .f32, ((c : Thread nD τ).loc cc0_stg2_0 ↦{fullShare} f))
      ⊢ iprop(((((c : Thread nD τ).loc cc0_scratch2 ↦{fullShare} g) ∗ ((c : Thread nD τ).loc cc0_stg2_0 ↦{fullShare} k0_pay1 g)) -∗ wpc c k Q)
          -∗ wpc c (pOut k) Q) := by
  unfold pOut
  iintro ⟨HG, ⟨%f, HO⟩⟩ Hk
  iapply (wp_load 𝒱₀ (c : Thread nD τ) none Set.univ (m := agM) (Finset.subset_univ _)) $$ HG; iintro HG
  rw [show (agM.view.readAt (Elt F) (Rect.unit (s := S512x512) ![0, 0] S512x512.size inb_S512x512_S512x512_0_0).toLoadRect g) = g
    from Memref.readAt_unit_zero (Elt F) cc0_scratch2 hz2 _ _]
  iapply (wp_load 𝒱₀ (c : Thread nD τ) none Set.univ (m := outM) (Finset.subset_univ _)) $$ HO; iintro HO
  iapply (wp_store 𝒱₀ (c : Thread nD τ) none Set.univ (m := outM) (r := Rect.unit (s := S512x512) ![0, 0] S512x512.size inb_S512x512_S512x512_0_0) (Mk := Finset.univ) (Finset.subset_univ _)) $$ HO; iintro HO
  rw [show ((outM.access (Rect.unit (s := S512x512) ![0, 0] S512x512.size inb_S512x512_S512x512_0_0)).write (Elt F) f (k0_pay1 g) Finset.univ) = k0_pay1 g
    from Memref.write_access_unit_zero_univ (Elt F) cc0_stg2_0 hz2 _ f _]
  iapply Hk
  isplitl [HG] <;> iassumption

theorem send1_spec (i : Fin 3) (l : List ((Dev nD × CI) × ℕ)) {k : PR F} {Q : PUnit → sProp 𝕄} :
    iprop(records A B K ∗ owesA c (rdu 0 i c :: l) ∗ unit 0 i c ∗ paPt c i fullShare (PA A B c) ∗ ∃ f, rsPt i (zt i c) f)
      ⊢ iprop(((owesA c l ∗ mid 0 i c) -∗ wpc c k Q) -∗ wpc c (pSend1 c (dv c 2 i) i k) Q) := by
  iintro ⟨#HR, HO, Hu, Hs, ⟨%f, Hd⟩⟩ Hk
  unfold pSend1
  iapply (step_send A B K c 0 i l (d := dv c 2 i) rfl (src := paSl c i) (dst := rsSl i) (credit_rs i) fullShare (PA A B c) f (Entails.refl _) (land1 A B c i f))
    $$ [HO Hu Hs Hd]
  · isplitr; · iexact HR
    isplitl [HO]; · iexact HO
    isplitl [Hu]; · iexact Hu
    isplitl [Hs]; · iexact Hs
    iexact Hd
  iexact Hk
theorem send2_spec (i : Fin 3) (l : List ((Dev nD × CI) × ℕ)) {k : PR F} {Q : PUnit → sProp 𝕄} :
    iprop(records A B K ∗ owesA c (rdu 1 i c :: l) ∗ unit 1 i c ∗ agPPt c c (sh i) (AG A B) ∗ ∃ f, agPPt c (zt i c) fullShare f)
      ⊢ iprop(((owesA c l ∗ mid 1 i c) -∗ wpc c k Q) -∗ wpc c (pSend2 c (dv c 3 i) i k) Q) := by
  iintro ⟨#HR, HO, Hu, Hs, ⟨%f, Hd⟩⟩ Hk
  unfold pSend2
  iapply (step_send A B K c 1 i l (d := dv c 3 i) rfl (src := agP c) (dst := agP c) (credit_agP c) (sh i) (AG A B) f (Entails.refl _)
      ((land2 A B c (zt i c) f).trans (Entails.of_eq (by
        show _ = agPPt (zs i (zt i c)) (zt i c) fullShare (AG A B)
        rw [zs_zt]))))
    $$ [HO Hu Hs Hd]
  · isplitr; · iexact HR
    isplitl [HO]; · iexact HO
    isplitl [Hu]; · iexact Hu
    isplitl [Hs]; · iexact Hs
    iexact Hd
  iexact Hk
theorem send3_spec (i : Fin 3) (l : List ((Dev nD × CI) × ℕ)) {k : PR F} {Q : PUnit → sProp 𝕄} :
    iprop(records A B K ∗ owesA c (rdu 2 i c :: l) ∗ unit 2 i c ∗ agBPt c c (sh i) (AG A B) ∗ ∃ f, agBPt c (fl i c) fullShare f)
      ⊢ iprop(((owesA c l ∗ mid 2 i c) -∗ wpc c k Q) -∗ wpc c (pSend3 c (dv c 4 i) i k) Q) := by
  iintro ⟨#HR, HO, Hu, Hs, ⟨%f, Hd⟩⟩ Hk
  unfold pSend3
  iapply (step_send A B K c 2 i l (d := dv c 4 i) rfl (src := agB c) (dst := agB c) (credit_agB c) (sh i) (AG A B) f (Entails.refl _)
      ((land3 A B c (fl i c) f).trans (Entails.of_eq (by
        show _ = agBPt (fl i (fl i c)) (fl i c) fullShare (AG A B)
        rw [fl_fl]))))
    $$ [HO Hu Hs Hd]
  · isplitr; · iexact HR
    isplitl [HO]; · iexact HO
    isplitl [Hu]; · iexact Hu
    isplitl [Hs]; · iexact Hs
    iexact Hd
  iexact Hk

/-- The two waits for copy `i` of round `p`. -/
theorem wait_spec (p i : Fin 3) (l : List ((Dev nD × CI) × ℕ)) (hl : ∀ x ∈ l, p.val + 2 < lvC x.1.2)
    {s s' t t' : Shape} {e e' u u' : EltTy} {sp sp' tp tp' : Space}
    {src : Memref sig .tc sp s e} {dst : Memref sig .tc sp' s' e'} {hs : _} {hd : _}
    {src' : Memref sig .tc tp t u} {dst' : Memref sig .tc tp' t' u'} {hs' : _} {hd' : _}
    (hN : dst.view.dmaCredit = Nc p) (hN' : dst'.view.dmaCredit = Nc p) {k : PR F} {Q : PUnit → sProp 𝕄} :
    iprop(records A B K ∗ levAts L lv ∗ owesA c l ∗ mid p i c)
      ⊢ iprop(((owesA c l ∗ fin p i c ∗ sendPay A B c p i ∗ recvPay A B c p i) -∗ wpc c k Q)
          -∗ wpc c (Prog.op (.waitDma2 (dsem p false i) src dst hs hd) fun _ => Prog.op (.waitDma2 (dsem p true i) src' dst' hs' hd') fun _ => k) Q) := by
  unfold mid fin
  iintro ⟨#HR, #Hlev, HO, HatS, HatV, HcS, HcV⟩ Hk
  iapply (step_wait A B K c p false i l (fun x hx => lt_of_le_of_lt (Nat.zero_le _) (hl x hx)) hN) $$ [HO HcS HatS]
  · isplitr; · iexact HR
    isplitr; · iexact Hlev
    isplitl [HO]; · iexact HO
    isplitl [HcS]; · iexact HcS
    iexact HatS
  iintro ⟨HO, HzS, HpS⟩
  iapply (step_wait A B K c p true i l hl hN') $$ [HO HcV HatV]
  · isplitr; · iexact HR
    isplitr; · iexact Hlev
    isplitl [HO]; · iexact HO
    isplitl [HcV]; · iexact HcV
    iexact HatV
  iintro ⟨HO, HzV, HpV⟩
  iapply Hk
  isplitl [HO]; · iexact HO
  isplitl [HzS HzV]; · isplitl [HzS] <;> iassumption
  isplitl [HpS]
  · rw [show sendPay A B c p i = dmaPay A B c (p, false, i) from rfl]; iexact HpS
  rw [show recvPay A B c p i = dmaPay A B c (p, true, i) from rfl]; iexact HpV
theorem wait1_spec (i : Fin 3) (l : List ((Dev nD × CI) × ℕ)) (hl : ∀ x ∈ l, 2 < lvC x.1.2) {k : PR F} {Q : PUnit → sProp 𝕄} :
    iprop(records A B K ∗ levAts L lv ∗ owesA c l ∗ mid 0 i c)
      ⊢ iprop(((owesA c l ∗ fin 0 i c ∗ paPt c i fullShare (PA A B c) ∗ rsPt i c (RS A B c)) -∗ wpc c k Q) -∗ wpc c (pWait1 c i k) Q) :=
  wait_spec A B K c 0 i l hl (credit_pa c i) (credit_rs i)
theorem wait2_spec (i : Fin 3) (l : List ((Dev nD × CI) × ℕ)) (hl : ∀ x ∈ l, 3 < lvC x.1.2) {k : PR F} {Q : PUnit → sProp 𝕄} :
    iprop(records A B K ∗ levAts L lv ∗ owesA c l ∗ mid 1 i c)
      ⊢ iprop(((owesA c l ∗ fin 1 i c ∗ agPPt c c (sh i) (AG A B) ∗ agPPt (zs i c) c fullShare (AG A B)) -∗ wpc c k Q) -∗ wpc c (pWait2 c i k) Q) :=
  wait_spec A B K c 1 i l hl (credit_agP c) (credit_agP c)
theorem wait3_spec (i : Fin 3) {k : PR F} {Q : PUnit → sProp 𝕄} :
    iprop(records A B K ∗ levAts L lv ∗ owesA c [] ∗ mid 2 i c)
      ⊢ iprop(((owesA c [] ∗ fin 2 i c ∗ agBPt c c (sh i) (AG A B) ∗ agBPt (fl i c) c fullShare (AG A B)) -∗ wpc c k Q) -∗ wpc c (pWait3 c i k) Q) :=
  wait_spec A B K c 2 i [] (fun x hx => absurd hx List.not_mem_nil) (credit_agB c) (credit_agB c)

end Prog

end Cert.KernelIdeal.Run
-- ==== Proof.Body.lean ====
/-
The whole body, piece by piece.
-/
module

public import proofs.«01_k».proof.Proof.Pieces

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Main
variable (A B : Dev nD → Vec F S512x2048 .bf16) (K : Dev nD × CI → ℕ) (c : Dev nD)

/-- What device `c` needs for all nine of its copies. -/
def units : sProp 𝕄 :=
  iprop((unit 0 0 c ∗ unit 0 1 c ∗ unit 0 2 c) ∗ (unit 1 0 c ∗ unit 1 1 c ∗ unit 1 2 c) ∗ (unit 2 0 c ∗ unit 2 1 c ∗ unit 2 2 c))
/-- All eighteen copy cells, closed. -/
def fins : sProp 𝕄 :=
  iprop((fin 0 0 c ∗ fin 0 1 c ∗ fin 0 2 c) ∗ (fin 1 0 c ∗ fin 1 1 c ∗ fin 1 2 c) ∗ (fin 2 0 c ∗ fin 2 1 c ∗ fin 2 2 c))
/-- What device `c` brings to the barrier. -/
def barLin : sProp 𝕄 := iprop(barToks c ∗ cred (tallyAt (kcell (c, none)) () 6) ∗ atPos ER (kcell (c, none)) 0 ∅ 0)
/-- The three scratch buffers, whatever they hold. -/
def scratch : sProp 𝕄 :=
  iprop((∃ f : Vec F S128x512 .bf16, ((c : Thread nD τ).loc cc0_scratch0 ↦{fullShare} f))
    ∗ (∃ f : Vec F S3x32x512 .bf16, ((c : Thread nD τ).loc cc0_scratch1 ↦{fullShare} f))
    ∗ ∃ f : Vec F S512x512 .bf16, ((c : Thread nD τ).loc cc0_scratch2 ↦{fullShare} f))

/-- A device's own two scratch buffers, parted into what it gives away and its own rows. -/
theorem give_all :
    iprop((∃ f : Vec F S3x32x512 .bf16, ((c : Thread nD τ).loc cc0_scratch1 ↦{fullShare} f))
        ∗ ∃ f : Vec F S512x512 .bf16, ((c : Thread nD τ).loc cc0_scratch2 ↦{fullShare} f))
      ⊢ (iprop((∃ f, agPPt c c fullShare f) ∗ zgive 0 c ∗ zgive 1 c ∗ zgive 2 c ∗ pgive 0 c ∗ pgive 1 c ∗ pgive 2 c) : sProp 𝕄) := by
  unfold zgive pgive
  iintro ⟨⟨%f, Hr⟩, ⟨%g, Hg⟩⟩
  ihave Hr := (Entails.of_eq (rs_split c f)) $$ Hr
  icases Hr with ⟨Hr0, Hr1, Hr2⟩
  ihave Hg := (Entails.of_eq (ag_split c c g)) $$ Hg
  icases Hg with ⟨Hb, Hb0, Hb1, Hb2⟩
  ihave Hb := (Entails.of_eq (agB_split c c fullShare g)) $$ Hb
  icases Hb with ⟨Ho, Ho0, Ho1, Ho2⟩
  isplitl [Ho]; · iexists g; iexact Ho
  isplitl [Hr2 Ho0]
  · isplitl [Hr2]; · iexists f; iexact Hr2
    iexists g; iexact Ho0
  isplitl [Hr1 Ho1]
  · isplitl [Hr1]; · iexists f; iexact Hr1
    iexists g; iexact Ho1
  isplitl [Hr0 Ho2]
  · isplitl [Hr0]; · iexists f; iexact Hr0
    iexists g; iexact Ho2
  isplitl [Hb0]; · iexists g; iexact Hb0
  isplitl [Hb1]; · iexists g; iexact Hb1
  iexists g; iexact Hb2

set_option maxHeartbeats 1600000 in
/-- The whole body: from the two staged operands, the ghost state and the scratch buffers to the product. -/
theorem main_spec {Q : PUnit → sProp 𝕄} :
    iprop(records A B K ∗ levAts L lv ∗ owesA c (L0 c) ∗ barLin c ∗ units c ∗ scratch c
        ∗ ((c : Thread nD τ).loc cc0_stg0_0 ↦{fullShare} A c) ∗ ((c : Thread nD τ).loc cc0_stg1_0 ↦{fullShare} B c)
        ∗ ∃ f : Vec F S512x512 .f32, ((c : Thread nD τ).loc cc0_stg2_0 ↦{fullShare} f))
      ⊢ iprop(((owesA c [] ∗ semVal (kcell (c, none)) 0 ∗ fins c ∗ scratch c
            ∗ ((c : Thread nD τ).loc cc0_stg0_0 ↦{fullShare} A c) ∗ ((c : Thread nD τ).loc cc0_stg1_0 ↦{fullShare} B c)
            ∗ ((c : Thread nD τ).loc cc0_stg2_0 ↦{fullShare} k0_pay1 (AG A B))) -∗ Q ⟨⟩)
          -∗ wpc c (prog c (dv c)) Q) := by
  unfold barLin units scratch prog
  iintro ⟨#HR, #Hlev, HO, ⟨Htok, Hc, Hat⟩, ⟨⟨Hu00, Hu01, Hu02⟩, ⟨Hu10, Hu11, Hu12⟩, ⟨Hu20, Hu21, Hu22⟩⟩, ⟨HP, HrsW, HagW⟩, HA, HB, Hout⟩ Hk
  ihave Hgive := (give_all c) $$ [HrsW HagW]
  · isplitl [HrsW] <;> iassumption
  icases Hgive with ⟨Hown, Hgv⟩
  iapply (bar_spec A B K c) $$ [HO Htok Hc Hat Hgv]
  · isplitr; · iexact HR
    isplitr; · iexact Hlev
    isplitl [HO]; · iexact HO
    isplitl [Htok]; · iexact Htok
    isplitl [Hc]; · iexact Hc
    isplitl [Hat]; · iexact Hat
    iexact Hgv
  unfold zgot pgot
  iintro ⟨HO, Hzb, ⟨Hr0, Hg0⟩, ⟨Hr1, Hg1⟩, ⟨Hr2, Hg2⟩, Hb0, Hb1, Hb2⟩
  iapply (part_spec A B c) $$ [HA HB HP]
  · isplitl [HA]; · iexact HA
    isplitl [HB] <;> iassumption
  iintro ⟨HA, HB, HP⟩
  ihave HP := (Entails.of_eq (pa_split c (PA A B c))) $$ HP
  icases HP with ⟨HPo, HP0, HP1, HP2⟩
  -- the first round
  iapply (send1_spec A B K c 0 _) $$ [HO Hu00 HP0 Hr0]
  · isplitr; · iexact HR
    isplitl [HO]; · iexact HO
    isplitl [Hu00]; · iexact Hu00
    isplitl [HP0] <;> iassumption
  iintro ⟨HO, Hu00⟩
  iapply (send1_spec A B K c 1 _) $$ [HO Hu01 HP1 Hr1]
  · isplitr; · iexact HR
    isplitl [HO]; · iexact HO
    isplitl [Hu01]; · iexact Hu01
    isplitl [HP1] <;> iassumption
  iintro ⟨HO, Hu01⟩
  iapply (send1_spec A B K c 2 _) $$ [HO Hu02 HP2 Hr2]
  · isplitr; · iexact HR
    isplitl [HO]; · iexact HO
    isplitl [Hu02]; · iexact Hu02
    isplitl [HP2] <;> iassumption
  iintro ⟨HO, Hu02⟩
  iapply (wait1_spec A B K c 0 _ (lev2 c)) $$ [HO Hu00]
  · isplitr; · iexact HR
    isplitr; · iexact Hlev
    isplitl [HO] <;> iassumption
  iintro ⟨HO, Hf00, HP0, Hr0⟩
  iapply (wait1_spec A B K c 1 _ (lev2 c)) $$ [HO Hu01]
  · isplitr; · iexact HR
    isplitr; · iexact Hlev
    isplitl [HO] <;> iassumption
  iintro ⟨HO, Hf01, HP1, Hr1⟩
  iapply (wait1_spec A B K c 2 _ (lev2 c)) $$ [HO Hu02]
  · isplitr; · iexact HR
    isplitr; · iexact Hlev
    isplitl [HO] <;> iassumption
  iintro ⟨HO, Hf02, HP2, Hr2⟩
  iapply (red_spec A B c) $$ [HPo Hr0 Hr1 Hr2 Hown]
  · isplitl [HPo]; · iexact HPo
    isplitl [Hr0]; · iexact Hr0
    isplitl [Hr1]; · iexact Hr1
    isplitl [Hr2] <;> iassumption
  iintro ⟨HPo, Hr0, Hr1, Hr2, Hown⟩
  ihave HP := (Entails.of_eq (pa_split c (PA A B c)).symm) $$ [HPo HP0 HP1 HP2]
  · isplitl [HPo]; · iexact HPo
    isplitl [HP0]; · iexact HP0
    isplitl [HP1] <;> iassumption
  ihave HRS := (Entails.of_eq (rs_split c (RS A B c)).symm) $$ [Hr0 Hr1 Hr2]
  · isplitl [Hr0]; · iexact Hr0
    isplitl [Hr1] <;> iassumption
  -- the second round
  ihave Hown := (Entails.of_eq (share3 _ _ _)) $$ Hown
  icases Hown with ⟨Ho0, Ho1, Ho2⟩
  iapply (send2_spec A B K c 0 _) $$ [HO Hu10 Ho0 Hg0]
  · isplitr; · iexact HR
    isplitl [HO]; · iexact HO
    isplitl [Hu10]; · iexact Hu10
    isplitl [Ho0] <;> iassumption
  iintro ⟨HO, Hu10⟩
  iapply (send2_spec A B K c 1 _) $$ [HO Hu11 Ho1 Hg1]
  · isplitr; · iexact HR
    isplitl [HO]; · iexact HO
    isplitl [Hu11]; · iexact Hu11
    isplitl [Ho1] <;> iassumption
  iintro ⟨HO, Hu11⟩
  iapply (send2_spec A B K c 2 _) $$ [HO Hu12 Ho2 Hg2]
  · isplitr; · iexact HR
    isplitl [HO]; · iexact HO
    isplitl [Hu12]; · iexact Hu12
    isplitl [Ho2] <;> iassumption
  iintro ⟨HO, Hu12⟩
  iapply (wait2_spec A B K c 0 _ (lev3 c)) $$ [HO Hu10]
  · isplitr; · iexact HR
    isplitr; · iexact Hlev
    isplitl [HO] <;> iassumption
  iintro ⟨HO, Hf10, Ho0, Hg0⟩
  iapply (wait2_spec A B K c 1 _ (lev3 c)) $$ [HO Hu11]
  · isplitr; · iexact HR
    isplitr; · iexact Hlev
    isplitl [HO] <;> iassumption
  iintro ⟨HO, Hf11, Ho1, Hg1⟩
  iapply (wait2_spec A B K c 2 _ (lev3 c)) $$ [HO Hu12]
  · isplitr; · iexact HR
    isplitr; · iexact Hlev
    isplitl [HO] <;> iassumption
  iintro ⟨HO, Hf12, Ho2, Hg2⟩
  ihave Hown := (Entails.of_eq (share3 _ _ _).symm) $$ [Ho0 Ho1 Ho2]
  · isplitl [Ho0]; · iexact Ho0
    isplitl [Ho1] <;> iassumption
  ihave Hblk := (Entails.of_eq (agB_split c c fullShare (AG A B)).symm) $$ [Hown Hg0 Hg1 Hg2]
  · isplitl [Hown]; · iexact Hown
    isplitl [Hg2]; · rw [show zt 0 c = zs 2 c from zt_rev 2 c]; iexact Hg2
    isplitl [Hg1]; · rw [show zt 1 c = zs 1 c from zt_rev 1 c]; iexact Hg1
    rw [show zt 2 c = zs 0 c from zt_rev 0 c]; iexact Hg0
  -- the third round
  ihave Hblk := (Entails.of_eq (share3 _ _ _)) $$ Hblk
  icases Hblk with ⟨Ho0, Ho1, Ho2⟩
  iapply (send3_spec A B K c 0 _) $$ [HO Hu20 Ho0 Hb0]
  · isplitr; · iexact HR
    isplitl [HO]; · iexact HO
    isplitl [Hu20]; · iexact Hu20
    isplitl [Ho0] <;> iassumption
  iintro ⟨HO, Hu20⟩
  iapply (send3_spec A B K c 1 _) $$ [HO Hu21 Ho1 Hb1]
  · isplitr; · iexact HR
    isplitl [HO]; · iexact HO
    isplitl [Hu21]; · iexact Hu21
    isplitl [Ho1] <;> iassumption
  iintro ⟨HO, Hu21⟩
  iapply (send3_spec A B K c 2 _) $$ [HO Hu22 Ho2 Hb2]
  · isplitr; · iexact HR
    isplitl [HO]; · iexact HO
    isplitl [Hu22]; · iexact Hu22
    isplitl [Ho2] <;> iassumption
  iintro ⟨HO, Hu22⟩
  iapply (wait3_spec A B K c 0) $$ [HO Hu20]
  · isplitr; · iexact HR
    isplitr; · iexact Hlev
    isplitl [HO] <;> iassumption
  iintro ⟨HO, Hf20, Ho0, Hb0⟩
  iapply (wait3_spec A B K c 1) $$ [HO Hu21]
  · isplitr; · iexact HR
    isplitr; · iexact Hlev
    isplitl [HO] <;> iassumption
  iintro ⟨HO, Hf21, Ho1, Hb1⟩
  iapply (wait3_spec A B K c 2) $$ [HO Hu22]
  · isplitr; · iexact HR
    isplitr; · iexact Hlev
    isplitl [HO] <;> iassumption
  iintro ⟨HO, Hf22, Ho2, Hb2⟩
  ihave Hblk := (Entails.of_eq (share3 _ _ _).symm) $$ [Ho0 Ho1 Ho2]
  · isplitl [Ho0]; · iexact Ho0
    isplitl [Ho1] <;> iassumption
  ihave HAG := (Entails.of_eq (ag_split c c (AG A B)).symm) $$ [Hblk Hb0 Hb1 Hb2]
  · isplitl [Hblk]; · iexact Hblk
    isplitl [Hb0]; · iexact Hb0
    isplitl [Hb1] <;> iassumption
  -- the result
  iapply (out_spec c (AG A B)) $$ [HAG Hout]
  · isplitl [HAG] <;> iassumption
  iintro ⟨HAG, Hout⟩
  unfold wpc; rw [wp_ret]; imodintro
  iapply Hk
  isplitl [HO]; · iexact HO
  isplitl [Hzb]; · iexact Hzb
  isplitl [Hf00 Hf01 Hf02 Hf10 Hf11 Hf12 Hf20 Hf21 Hf22]
  · unfold fins
    isplitl [Hf00 Hf01 Hf02]
    · isplitl [Hf00]; · iexact Hf00
      isplitl [Hf01] <;> iassumption
    isplitl [Hf10 Hf11 Hf12]
    · isplitl [Hf10]; · iexact Hf10
      isplitl [Hf11] <;> iassumption
    isplitl [Hf20]; · iexact Hf20
    isplitl [Hf21] <;> iassumption
  isplitl [HP HRS HAG]
  · isplitl [HP]; · iexists _; iexact HP
    isplitl [HRS]; · iexists _; iexact HRS
    iexists _; iexact HAG
  isplitl [HA]; · iexact HA
  isplitl [HB] <;> iassumption

end Main

end Cert.KernelIdeal.Run
-- ==== Proof.Deal.lean ====
/-
How the launch deals the ghost state and the credit, and what comes back.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over index types -/

section Big
omit [FloatOps F]

theorem big3 (Φ : Fin 3 → sProp 𝕄) : bigSep Finset.univ Φ = iprop(Φ 0 ∗ Φ 1 ∗ Φ 2) :=
  bigSep_univ_eq_bigSepL [0, 1, 2] (by decide) (by decide) Φ
theorem bigBool (Φ : Bool → sProp 𝕄) : bigSep Finset.univ Φ = iprop(Φ false ∗ Φ true) :=
  bigSep_univ_eq_bigSepL [false, true] (by decide) (by decide) Φ
theorem bigOption {I : Type} [Fintype I] (Φ : Option I → sProp 𝕄) :
    bigSep Finset.univ Φ = iprop(Φ none ∗ bigSep Finset.univ fun x => Φ (some x)) := by
  rw [bigSep_univ_equiv (Equiv.optionEquivSumPUnit.{0} I).symm, bigSep_univ_sum, bigSep_univ_of_subsingleton PUnit.unit]
  exact Idealize.SL.BI.Entails.antisymm Idealize.SL.BI.sep_comm Idealize.SL.BI.sep_comm
/-- Both sides of every copy, copy by copy. -/
theorem bigSide (Φ : Fin 3 × Bool × Fin 3 → sProp 𝕄) :
    bigSep Finset.univ Φ = bigSep Finset.univ fun p => bigSep Finset.univ fun i => iprop(Φ (p, false, i) ∗ Φ (p, true, i)) := by
  rw [bigSep_univ_prod]
  refine bigSep_congr fun p _ => ?_
  rw [bigSep_univ_prod, bigBool, ← bigSep_sep']
/-- A family over devices may be shifted, member by member. -/
theorem bigShift {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [← bigSep_univ_prod (fun x : Dev nD × I => Φ x.1 x.2), ← bigSep_univ_prod (fun x : Dev nD × I => Φ (e x.2 x.1) x.2)]
  exact bigSep_univ_equiv ⟨fun x : Dev nD × I => (e x.2 x.1, x.2), fun x => ((e x.2).symm x.1, x.2),
    fun x => by simp, fun x => by simp⟩ (fun x : Dev nD × I => Φ x.1 x.2)
theorem bigPersist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Big

/-! ## The launch's element -/

/-- The kernel's own semaphores. -/
def osem : Fin 3 × Bool × Fin 3 → SemLoc sig := fun x => .dma (dsem x.1 x.2.1 x.2.2)
theorem ownSemFacts : Pipeline.OwnSemFacts cfg0.spec osem := by decide

def ringCells : Finset (GSem nD τ sig) := Finset.univ.map ⟨kcell, kcell_inj⟩
/-- A payment's token as minted: to whose barrier cell, or to which copy cell. -/
abbrev TI : Type := (Bool × Fin 3) ⊕ (Fin 3 × Bool × Fin 3)
def tokOf (x : Dev nD × TI) : GSem nD τ sig × ℕ × (Bool × Fin 3) := match x.2 with
  | .inl d => (kcell (x.1, none), 0, d)
  | .inr y => (kcell (x.1, some y), 0, (false, 0))
theorem tokOf_inj : Function.Injective tokOf := by
  rintro ⟨c, d | y⟩ ⟨c', d' | y'⟩ h
  · have h1 := kcell_inj (congrArg Prod.fst h)
    have h2 : d = d' := congrArg (fun z : GSem nD τ sig × ℕ × (Bool × Fin 3) => z.2.2) h
    exact Prod.ext (Prod.mk.inj h1).1 (congrArg Sum.inl h2)
  · exact absurd (kcell_inj (congrArg Prod.fst h)) (by simp)
  · exact absurd (kcell_inj (congrArg Prod.fst h)) (by simp)
  · have h1 := kcell_inj (congrArg Prod.fst h)
    exact Prod.ext (Prod.mk.inj h1).1 (congrArg Sum.inr (Option.some.inj (Prod.mk.inj h1).2))
def ringToks : Finset (GSem nD τ sig × ℕ × (Bool × Fin 3)) := Finset.univ.map ⟨tokOf, tokOf_inj⟩

def u₀ : UU := (initOf (Pipeline.cells cfgs cellOf_inj) (Pipeline.launchToks cfgs cellOf_inj), initOf ringCells ringToks)

section Deal
variable (A B : Dev nD → Vec F S512x2048 .bf16)

/-- The tokens of the payments to device `c`'s cells. -/
def toks (c : Dev nD) : sProp 𝕄 :=
  iprop((bigSep Finset.univ fun d : Bool × Fin 3 => dutyTok ER (kcell (c, none)) 0 d)
    ∗ bigSep Finset.univ fun x : Fin 3 × Bool × Fin 3 => dutyTok ER (kcell (c, some x)) 0 (false, 0))
/-- Who pays a copy cell of `c`'s copies: a receiving cell is the peer's, a sending cell the device's own. -/
def payE (x : Fin 3 × Bool × Fin 3) : Dev nD ≃ Dev nD := if x.2.1 then peerE (gb x.1) x.2.2 else Equiv.refl _
/-- The tokens of the payments device `c` makes. -/
def payToks (c : Dev nD) : sProp 𝕄 :=
  iprop((bigSep Finset.univ fun d : Bool × Fin 3 => dutyTok ER (kcell (peerE d.1 d.2 c, none)) 0 d)
    ∗ bigSep Finset.univ fun x : Fin 3 × Bool × Fin 3 => dutyTok ER (kcell (payE x c, some x)) 0 (false, 0))
theorem toks_around : (bigSep Finset.univ fun c : Dev nD => (toks c : sProp 𝕄)) ⊢ bigSep Finset.univ fun c : Dev nD => payToks c := by
  unfold toks payToks
  rw [bigSep_sep', bigSep_sep',
    bigShift (fun d : Bool × Fin 3 => peerE d.1 d.2) (fun c d => (dutyTok ER (kcell (c, none)) 0 d : sProp 𝕄)),
    bigShift payE (fun c x => (dutyTok ER (kcell (c, some x)) 0 (false, 0) : sProp 𝕄))]

/-- What the launch deals device `c`. -/
def G (c : Dev nD) : sProp 𝕄 :=
  iprop((bigSep Finset.univ fun k : CI => roundState ER (Rd A B) (kcell (c, k)) 0)
    ∗ (bigSep Finset.univ fun k : CI => iprop(atPos ER (kcell (c, k)) 0 ∅ 0 ∗ reached ER (kcell (c, k)) 0)) ∗ toks c)
/-- What stays with device `c`: where it stands, and the payments it makes. -/
def linear (c : Dev nD) : sProp 𝕄 := iprop((bigSep Finset.univ fun k : CI => atPos ER (kcell (c, k)) 0 ∅ 0) ∗ payToks c)
/-- What device `c` starts from. -/
def G' (c : Dev nD) : sProp 𝕄 := iprop(∃ K, records A B K ∗ linear c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd A B) ringCells ringToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownS (c : Dev nD) : sProp 𝕄 := Pipeline.ownSems0 (Ix := Unit) (Name := ℕ) (U := UU) (Lvl := ℕ) (Val := Elt F) (τ := τ) osem c
theorem ownS_eq (c : Dev nD) : (ownS c : sProp 𝕄) = bigSep Finset.univ fun x : Fin 3 × Bool × Fin 3 => semVal (kcell (c, some x)) 0 := rfl
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

theorem sems0_eq (c : Dev nD) : iprop(ownS c ∗ unscopedSems0 c) ⊢ (bigSep Finset.univ fun k : CI => semVal (kcell (c, k)) 0 : sProp 𝕄) := by
  rw [ownS_eq, unscopedSems0_eq, bigOption]
  iintro ⟨HS, HB⟩
  isplitl [HB] <;> iassumption

theorem core_alloc (c : Dev nD) :
    iprop(ownS c ∗ unscopedSems0 c ∗ G A B c)
      ⊢ |={Set.univ}=> iprop((bigSep Finset.univ fun k : CI => iprop(∃ κ : ℕ, cellInv ER (Rd A B) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd A B) (kcell (c, k)) 0)
      ⊢ (|={Set.univ}=> bigSep Finset.univ fun k : CI => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) : iprop(records A B K ∗ linear c) ⊢ G' A B c := by
  unfold G'; iintro H; iexists K; iexact H

theorem regroup :
    (bigSep Finset.univ fun c : Dev nD => iprop((bigSep Finset.univ fun k : CI => iprop(∃ κ : ℕ, cellInv ER (Rd A B) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun ck : Dev nD × CI => iprop(∃ κ : ℕ, cellInv ER (Rd A B) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd A B) κ (kcell ck) : sProp 𝕄))) $$ HI
  icases HK with ⟨%K, #HI⟩
  ihave Htk := (toks_around (F := F)) $$ Htok
  iapply (bigPersist (R := records A B K) fun c _ => ghost_intro A B K c)
  isplitr
  · unfold records; isplitl; · iexact HI
    iexact HR
  · unfold linear; rw [bigSep_sep']
    isplitl [Hat]; · iexact Hat
    iexact Htk

theorem glob : (bigSep Finset.univ fun c => iprop(ownS c ∗ unscopedSems0 c ∗ G A B c) : sProp 𝕄) ⊢ |={Set.univ}=> bigSep Finset.univ (G' A B) :=
  ((bigSep_mono fun c _ => core_alloc A B c).trans (bigSep_fupd _ _)).trans (BI.fupd_mono (regroup A B))

/-! ## The launch's credit -/

theorem Osum_kcell (l : List ((Dev nD × CI) × ℕ)) (ck : Dev nD × CI) :
    Osum l (kcell ck) () = (l.map fun x => if x.1 = ck then x.2 else 0).sum := by
  induction l with
  | nil => rfl
  | cons x l ih =>
    rw [Osum, Pi.add_apply, Finsupp.add_apply, tallyAt_apply, ih, List.map_cons, List.sum_cons, Nat.add_comm]
    congr 1
    by_cases h : x.1 = ck
    · rw [if_pos h, if_pos ⟨h ▸ rfl, rfl⟩]
    · rw [if_neg h, if_neg fun h' => h (kcell_inj h'.1).symm]
/-- Every device's due to its peer's cell `k'` is one device's due to `c`'s cell `k'`. -/
theorem sum_due (b : Bool) (i : Fin 3) (k' k : CI) (n : ℕ) (c : Dev nD) :
    (∑ d : Dev nD, if ((peer b i d, k') : Dev nD × CI) = (c, k) then n else 0) = if k' = k then n else 0 := by
  by_cases h : k' = k
  · subst h
    rw [if_pos rfl, Finset.sum_eq_single (from_ b i c)]
    · rw [peer_from, if_pos rfl]
    · intro d _ hd
      rw [if_neg]
      intro h'
      exact hd (by rw [← (Prod.mk.inj h').1, from_peer])
    · exact fun h' => absurd (Finset.mem_univ _) h'
  · rw [if_neg h]
    exact Finset.sum_eq_zero fun d _ => if_neg fun h' => h (Prod.mk.inj h').2
/-- The cells the launch credits, and by how much. -/
def amt : Option (Fin 3 × Fin 3) → ℕ
  | none => 6
  | some x => Nc x.1
def cellOfJ : Option (Fin 3 × Fin 3) → CI
  | none => none
  | some x => some (x.1, true, x.2)
theorem owed_sum (c : Dev nD) (j : Option (Fin 3 × Fin 3)) : (∑ d : Dev nD, O₀ d (kcell (c, cellOfJ j)) ()) = amt j := by
  unfold O₀
  rw [Finset.sum_congr rfl fun d _ => Osum_kcell (L0 d) (c, cellOfJ j)]
  simp only [List.map_cons, List.map_nil, List.sum_cons, List.sum_nil, Finset.sum_add_distrib, sum_due, Finset.sum_const_zero]
  rcases j with _ | ⟨p, i⟩
  · rfl
  · fin_cases p <;> fin_cases i <;> simp [cellOfJ, amt]

theorem launch_at (c : Dev nD) (j : Option (Fin 3 × Fin 3)) :
    tallyOn (kcell (c, cellOfJ j)) (launchCredit (Pipeline.owing O₀) 0 (kcell (c, cellOfJ j)))
      = (tallyAt (kcell (c, cellOfJ j)) () (amt j) : CellTallies nD τ sig Unit) := by
  unfold tallyAt; refine congrArg _ (Finsupp.ext fun u => ?_); cases u
  rw [Pipeline.launchCredit_owing, Finsupp.single_eq_same]
  exact owed_sum c j
theorem cellOfJ_inj : Function.Injective fun j => csem (cellOfJ j) := by
  intro j j' h
  have h := csem_inj h
  rcases j with _ | ⟨p, i⟩ <;> rcases j' with _ | ⟨p', i'⟩ <;> simp_all [cellOfJ]
theorem creds (c : Dev nD) :
    (Pipeline.launchCred O₀ c : sProp 𝕄) ⊢ iprop(cred (tallyAt (kcell (c, none)) () 6)
      ∗ bigSep Finset.univ fun p : Fin 3 => bigSep Finset.univ fun i : Fin 3 => cred (tallyAt (kcell (c, some (p, true, i))) () (Nc p))) := by
  unfold Pipeline.launchCred
  refine (bigSep_subset (Finset.subset_univ (Finset.univ.map ⟨fun j => csem (cellOfJ j), cellOfJ_inj⟩))).trans ?_
  rw [bigSep_map, bigOption, bigSep_univ_prod]
  have h1 : (cred (tallyAt (kcell (c, none)) () 6) : sProp 𝕄) = cred (tallyOn (kcell (c, cellOfJ none)) (launchCredit (Pipeline.owing O₀) 0 (kcell (c, cellOfJ none)))) :=
    (congrArg cred (launch_at c none)).symm
  have h2 : ∀ p i, (cred (tallyAt (kcell (c, some (p, true, i))) () (Nc p)) : sProp 𝕄)
      = cred (tallyOn (kcell (c, cellOfJ (some (p, i)))) (launchCredit (Pipeline.owing O₀) 0 (kcell (c, cellOfJ (some (p, i)))))) :=
    fun p i => (congrArg cred (launch_at c (some (p, i)))).symm
  rw [h1]; simp only [h2]
  exact BI.Entails.refl _

/-! ## What the body takes and gives, from what the launch deals and takes back -/

theorem bar_lin (c : Dev nD) :
    iprop(linear c ∗ cred (tallyAt (kcell (c, none)) () 6)
        ∗ bigSep Finset.univ fun p : Fin 3 => bigSep Finset.univ fun i : Fin 3 => cred (tallyAt (kcell (c, some (p, true, i))) () (Nc p)))
      ⊢ (iprop(barLin c ∗ units c) : sProp 𝕄) := by
  have hu : (units c : sProp 𝕄) = bigSep Finset.univ fun p : Fin 3 => bigSep Finset.univ fun i : Fin 3 => unit p i c := by
    rw [big3]; simp only [big3]; rfl
  have hb : (barToks c : sProp 𝕄) = bigSep Finset.univ fun d : Bool × Fin 3 => dutyTok ER (kcell (peerE d.1 d.2 c, none)) 0 d := by
    rw [bigSep_univ_eq_bigSepL [(false, 0), (false, 1), (false, 2), (true, 0), (true, 1), (true, 2)] (by decide) (by decide)]; rfl
  rw [hu]
  unfold linear payToks barLin
  rw [hb, bigOption, bigSide, bigSide]
  unfold unit
  simp only [bigSep_sep']
  iintro ⟨⟨⟨HatB, HatS, HatV⟩, Hbt, HtS, HtV⟩, HcB, HcV⟩
  isplitl [HatB Hbt HcB]
  · isplitl [Hbt]; · iexact Hbt
    isplitl [HcB] <;> iassumption
  isplitl [HatS]; · iexact HatS
  isplitl [HatV]; · iexact HatV
  isplitl [HtS]; · iexact HtS
  isplitl [HtV]; · iexact HtV
  iexact HcV

theorem fins_eq (c : Dev nD) : (fins c : sProp 𝕄) = ownS c := by
  rw [ownS_eq, bigSide, big3]; simp only [big3]; rfl

end Deal

end Cert.KernelIdeal.Run
-- ==== Proof.Run.lean ====
/-
The launch: what each device starts from and leaves, the body at its one grid point, and the run of the program.
-/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (ρ : Dev nD → PrngReg)

/-! ## The run's contents -/

def s₀ : MemSt nD τ sig (Elt F) := ⟨m, fun _ => 0, ρ⟩
/-- What device `d`'s staging buffers hold of the two operands once fetched. -/
def Am (d : Dev nD) : Vec F S512x2048 .bf16 := (win0_0.blk (0 : Fin 1)).view.read (Elt F) ((s₀ m ρ).mem ((d : Thread nD τ).loc main_arg0))
def Bm (d : Dev nD) : Vec F S512x2048 .bf16 := (win0_1.blk (0 : Fin 1)).view.read (Elt F) ((s₀ m ρ).mem ((d : Thread nD τ).loc main_arg1))
/-- What every device's output buffer holds at the end. -/
def outAt : Vec F S512x512 .f32 := k0_pay1 (AG (Am m ρ) (Bm m ρ))

/-- What device `c`'s body starts from, the scratch buffers aside. -/
def start (c : Dev nD) : sProp 𝕄 :=
  iprop(G' (Am m ρ) (Bm m ρ) c ∗ (cred (tallyAt (kcell (c, none)) () 6)
      ∗ bigSep Finset.univ fun p : Fin 3 => bigSep Finset.univ fun i : Fin 3 => cred (tallyAt (kcell (c, some (p, true, i))) () (Nc p))) ∗ levAts L lv)
def Φ₀ (c : Dev nD) : sProp 𝕄 := iprop(start m ρ c ∗ scratch c)
def Φ₁ (c : Dev nD) : sProp 𝕄 := iprop(scratch c ∗ semVal (kcell (c, none)) 0 ∗ fins c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Am m ρ c
    | ⟨1, _⟩ => Bm m ρ c
    | ⟨2, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (Am m ρ c) ∗ stg c cc0_stg1_0 (Bm m ρ c) ∗ stg c cc0_stg2_0 (outAt m ρ))

theorem body_main (c : Dev nD) : bodyPre m ρ c ⊢ wpc c (prog c (rawDv c)) fun _ => bodyPost m ρ c := by
  rw [rawDv_eq]
  unfold bodyPre bodyPost Φ₀ Φ₁ start G' stg Dat.owesAt Pipeline.owesWithin
  rw [show (dats m ρ 0 c).owed t0_0.castSucc = Osum (L0 c) from rfl, show (dats m ρ 0 c).owed t0_0.succ = Osum [] from rfl]
  iintro ⟨⟨⟨⟨%K, HR, Hlin⟩, Hcr, Hlev⟩, Hscr⟩, ⟨%W, -, HO⟩, ⟨%d0, %g0, %hg0, H0⟩, ⟨%d1, %g1, %hg1, H1⟩, ⟨%d2, %g2, -, H2⟩⟩
  have h0 : g0 = Am m ρ c := by rw [hg0]; unfold Dat.before; rw [if_pos (fetch0_0 t0_0)]; rfl
  have h1 : g1 = Bm m ρ c := by rw [hg1]; unfold Dat.before; rw [if_pos (fetch0_1 t0_0)]; rfl
  subst h0; subst h1
  ihave Hbu := (bar_lin (F := F) c) $$ [Hlin Hcr]
  · isplitl [Hlin] <;> iassumption
  icases Hbu with ⟨Hb, Hu⟩
  iapply (main_spec (Am m ρ) (Bm m ρ) K c) $$ [HR Hlev HO Hb Hu Hscr H0 H1 H2]
  · isplitl [HR]; · iexact HR
    isplitl [Hlev]; · iexact Hlev
    isplitl [HO]; · unfold owesA; iexists W; iexact HO
    isplitl [Hb]; · iexact Hb
    isplitl [Hu]; · iexact Hu
    isplitl [Hscr]; · iexact Hscr
    isplitl [H0]; · iexact H0
    isplitl [H1]; · iexact H1
    iexists g2; iexact H2
  unfold owesA
  iintro ⟨⟨%W', HO⟩, Hz, Hf, Hscr, H0, H1, H2⟩
  isplitl [Hz Hf Hscr]
  · isplitl [Hscr]; · iexact Hscr
    isplitl [Hz] <;> iassumption
  isplitl [HO]
  · iexists W'; isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 65536 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ printed (fun _ => bodyPost m ρ c)
  rw [printed_eq, wp_deviceId]
  exact body_main m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m ρ) (Bm m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scratch
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  rw [fins_eq]
  iintro ⟨Hr, Hz, Hf⟩
  isplitl [Hz]; · iexact Hz
  isplitl [Hf]; · iexact Hf
  unfold scratch
  iexact Hr

theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), SemLoc.dma ((cfg0.win w).sem s)) () ≤ 0 := by fin_cases w <;> fin_cases s <;> exact Nat.le_refl _
    rcases t with ⟨_ | _, ht⟩
    · exact mayWait c _ 0 (L0 c) hs (lev0 c)
    · exact mayWait c _ 0 [] hs (fun x hx => absurd hx List.not_mem_nil)

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair execution ends; then every window's array holds what `finalA` says
    and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Am m ρ) (Bm m ρ)) (G' := G' (Am m ρ) (Bm m ρ)) (u₀ := u₀)
    (hu₀ := by
      unfold u₀
      iintro Hu
      ihave H := (ownU_pair _ _) $$ Hu
      icases H with ⟨HP, HX⟩
      imod (fund_ring (Am m ρ) (Bm m ρ)) $$ HX with HG
      imodintro
      isplitl [HP] <;> iassumption)
    (hglob := glob (Am m ρ) (Bm m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem finalA_0 (c : Dev nD) : finalA m ρ c (0 : Fin 3) = m ((c : Thread nD τ).loc main_arg0) :=
  (dats (F := F) m ρ 0 c).arrAt_in (0 : Fin 3) rfl _
theorem finalA_1 (c : Dev nD) : finalA m ρ c (1 : Fin 3) = m ((c : Thread nD τ).loc main_arg1) :=
  (dats (F := F) m ρ 0 c).arrAt_in (1 : Fin 3) rfl _

theorem hz : (fun a => ![0, 0] a * S512x512.size a : Fin 2 → Nat) = fun _ => 0 := funext fun a => by fin_cases a <;> rfl

theorem finalA_2 (c : Dev nD) : (win0_2.blk (0 : Fin 1)).view.read (Elt F) (finalA m ρ c (2 : Fin 3)) = outAt m ρ := by
  unfold finalA
  rw [show cfg0.N = t0_0.val + 1 from rfl, (dats (F := F) m ρ 0 c).arrAt_succ 2 t0_0]
  rw [if_pos (flush0_2 t0_0)]
  exact View.read_write_univ _ _

/-- From any memory with zero counters, every execution ends with the operands unchanged and every counter at zero. -/
theorem frame_run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_0 m ρ c), (h.1 c (1 : Fin 3)).trans (finalA_1 m ρ c)⟩, h.2⟩) (run_main m ρ)

end Cert.KernelIdeal.Run
-- ==== Proof.Value.lean ====
/-
The numbers: what the devices gather is the product of the whole arrays.

Device `c` holds the columns of block `c % 4` of both operands and multiplies the 128 rows of its plane position. The
four devices of one plane position add their products, so row `r` of the gathered product is the sum of four partial
sums over the columns, which is the sum over all columns whatever the order.
-/
module

public import proofs.«01_k».proof.Proof.Run
public import Idealize.ShloMosaic.Lib.MatmulPlain
public import Idealize.ShloMosaic.Lib.ValueIdx
public import Idealize.ShloMosaic.Lib.ValueLayout
public import Idealize.ShloMosaic.Lib.StackMember
public import proofs.«01_k».proof.Proof.Gen.ReferenceIdeal.Run

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Reads at an index -/

/-- What a view reads depends on the contents at its elements only. -/
theorem read_congr {r : Ref sig .tc} {cs : CoreSpace} {s : Shape} {e : EltTy} (v : View sig .tc cs s e) {f g : v.ty.Contents (Elt Ideal)}
    (h : ∀ j ∈ v.set, f j = g j) : v.read (Elt Ideal) f = v.read (Elt Ideal) g := by
  funext x
  rw [View.read_apply, View.read_apply, h _ (Finset.mem_map_of_mem _ (Finset.mem_univ x))]

/-- Whole rows of a matrix, read at a row and a column. -/
theorem idx_rows {n w h o : ℕ} {off : Fin 2 → ℕ} (ho : off = ![o, 0])
    (inb : ∀ a, off a + (![h, w] : Fin 2 → ℕ) a ≤ (⟨2, ![n, w]⟩ : Shape).size a) (r : Fin h) (k : Fin w) (hr : o + r.val < n) :
    (Rect.unit (s := ⟨2, ![n, w]⟩) off ![h, w] inb).emb (ix2 r k) = ix2 ⟨o + r.val, hr⟩ k := by
  subst ho
  funext a
  apply Fin.ext
  match a with
  | ⟨0, _⟩ => exact congrArg (o + ·) (Nat.one_mul _)
  | ⟨1, _⟩ => exact (Nat.zero_add _).trans (Nat.one_mul _)

section Sum
variable (A B : Dev nD → Vec Ideal S512x2048 .bf16)

theorem off1_eq : ∀ c : Dev nD, k0_off1 c = ![128 * (c.val / 4), 0] := by decide +kernel

theorem pa_at (c : Dev nD) (r : Fin 128) (j : Fin 512) (hr : 128 * (c.val / 4) + r.val < 512) :
    PA A B c (ix2 r j) = ∑ k : Fin 2048, A c (ix2 ⟨128 * (c.val / 4) + r.val, hr⟩ k) * B c (ix2 j k) := by
  unfold PA k0_pay2
  simp only [shapeCast_self]
  show FloatOps.matmul (F := Ideal) (φ₁ := .bf16) (φ₂ := .bf16) (DotDims.transposedRhs 128 2048 512) none _ _ _ (ix2 r j) = _
  rw [Ideal.matmul_transposedRhs_apply, constant_apply, Ideal.ofBits_zero_f32, zero_add]
  refine Finset.sum_congr rfl fun k _ => ?_
  exact congrArg (fun i => A c i * B c (ix2 j k)) (idx_rows (off1_eq c) (k0_off1_inb c) r k hr)

theorem slot (c : Dev nD) (i : Fin 3) :
    shapeCast S32x512 ((rsM.access (rsR i)).read (Elt Ideal) (RS A B c)) shapeCasts_S1x32x512_S32x512
      = (paSl (zs i c) i).view.read (Elt Ideal) (PA A B (zs i c)) := by
  show (rsSl i).view.read (Elt Ideal) (RS A B c) = _
  rw [read_congr (r := cc0_scratch1) (rsSl i).view (fun j hj => RS_at A B c i j hj)]
  unfold RSat
  exact View.read_write_univ _ _

/-- One device's share of an entry of the sum. -/
def part (d : Dev nD) (r j : Fin 512) : EReal := ∑ k : Fin 2048, A d (ix2 r k) * B d (ix2 j k)

theorem red_at (c : Dev nD) (r : Fin 32) (j : Fin 512) (hr : 32 * c.val + r.val < 512) :
    RED A B c (ix2 r j) = part A B c ⟨_, hr⟩ j + part A B (zs 0 c) ⟨_, hr⟩ j + part A B (zs 1 c) ⟨_, hr⟩ j + part A B (zs 2 c) ⟨_, hr⟩ j := by
  have hc : c.val < 16 := c.isLt
  have hown : (paM.access (paO c)).read (Elt Ideal) (PA A B c) (ix2 r j) = part A B c ⟨_, hr⟩ j := by
    have h1 : 32 * (c.val % 4) + r.val < 128 := by omega
    refine (congrArg (PA A B c) (idx_rows (k0_off3_eq c) (k0_off3_inb c) r j h1)).trans ?_
    have h2 : 128 * (c.val / 4) + (32 * (c.val % 4) + r.val) < 512 := by omega
    rw [pa_at A B c ⟨_, h1⟩ j h2]
    unfold part
    rw [show (⟨128 * (c.val / 4) + (32 * (c.val % 4) + r.val), h2⟩ : Fin 512) = ⟨_, hr⟩ from Fin.ext (by show 128 * (c.val / 4) + (32 * (c.val % 4) + r.val) = 32 * c.val + r.val; omega)]
  have hget (i : Fin 3) : (paSl (zs i c) i).view.read (Elt Ideal) (PA A B (zs i c)) (ix2 r j) = part A B (zs i c) ⟨_, hr⟩ j := by
    have hv : (zs i c).val = 4 * (c.val / 4) + (c.val % 4 + (3 - i.val)) % 4 := rfl
    have hi := i.isLt
    have h1 : 32 * (((zs i c).val % 4 + (i.val + 1)) % 4) + r.val < 128 := by omega
    refine (congrArg (PA A B (zs i c)) (idx_rows (off2_eq (zs i c) i) (k0_off2_inb (zs i c) i) r j h1)).trans ?_
    have h2 : 128 * ((zs i c).val / 4) + (32 * (((zs i c).val % 4 + (i.val + 1)) % 4) + r.val) < 512 := by omega
    rw [pa_at A B (zs i c) ⟨_, h1⟩ j h2]
    unfold part
    rw [show (⟨128 * ((zs i c).val / 4) + (32 * (((zs i c).val % 4 + (i.val + 1)) % 4) + r.val), h2⟩ : Fin 512) = ⟨_, hr⟩ from Fin.ext (by
      show 128 * ((zs i c).val / 4) + (32 * (((zs i c).val % 4 + (i.val + 1)) % 4) + r.val) = 32 * c.val + r.val; omega)]
  unfold RED k0_pay4 k0_pay3
  simp only [shapeCast_self, truncf_apply, addf_apply, extf_apply]
  rw [slot, slot, slot, hown, hget, hget, hget]

theorem ag_at (r j : Fin 512) : AG A B (ix2 r j) = part A B ⟨r.val / 32, by show _ < 16; omega⟩ r j
    + part A B (zs 0 ⟨r.val / 32, by show _ < 16; omega⟩) r j + part A B (zs 1 ⟨r.val / 32, by show _ < 16; omega⟩) r j
    + part A B (zs 2 ⟨r.val / 32, by show _ < 16; omega⟩) r j := by
  have hs : r.val / 32 < nD := by show _ < 16; omega
  have hr : 32 * (r.val / 32) + r.val % 32 < 512 := by omega
  have hrr : (⟨32 * (r.val / 32) + r.val % 32, hr⟩ : Fin 512) = r := Fin.ext (by show 32 * (r.val / 32) + r.val % 32 = r.val; omega)
  have hread : (agP ⟨r.val / 32, hs⟩).view.read (Elt Ideal) (AG A B) = RED A B ⟨r.val / 32, hs⟩ := by
    rw [read_congr (r := cc0_scratch2) (agP ⟨r.val / 32, hs⟩).view (fun j hj => AG_at A B _ j hj)]
    exact View.read_write_univ _ _
  have hrow : (agP ⟨r.val / 32, hs⟩).view.read (Elt Ideal) (AG A B) (ix2 ⟨r.val % 32, by omega⟩ j) = AG A B (ix2 r j) :=
    (congrArg (AG A B) (idx_rows (off5_eq ⟨r.val / 32, hs⟩) (k0_off5_inb ⟨r.val / 32, hs⟩) ⟨r.val % 32, by omega⟩ j hr)).trans
      (congrArg (fun r => AG A B (ix2 r j)) hrr)
  rw [← hrow, hread, red_at A B ⟨r.val / 32, hs⟩ ⟨r.val % 32, by omega⟩ j hr, hrr]

end Sum

/-! ## Against the whole arrays -/

section Whole
variable (X Y : Vec Ideal (⟨2, ![512, 8192]⟩ : Shape) .bf16)

/-- Block `z` of four of an entry of the product. -/
def blk (r j : Fin 512) (z : Fin 4) : EReal :=
  ∑ k : Fin 2048, X (ix2 r ⟨2048 * z.val + k.val, by omega⟩) * Y (ix2 j ⟨2048 * z.val + k.val, by omega⟩)

theorem sum_blk (r j : Fin 512) : ∑ k : Fin 8192, X (ix2 r k) * Y (ix2 j k) = ∑ z : Fin 4, blk X Y r j z := by
  unfold blk
  rw [← (finProdFinEquiv (m := 4) (n := 2048)).sum_comp, Fintype.sum_prod_type]
  refine Finset.sum_congr rfl fun z _ => Finset.sum_congr rfl fun k _ => ?_
  have e : (finProdFinEquiv (z, k) : Fin (4 * 2048)) = (⟨2048 * z.val + k.val, by omega⟩ : Fin 8192) := Fin.ext (Nat.add_comm _ _)
  rw [e]

/-- Around the depth axis from any depth, the four blocks are all of them. -/
theorem around (g : Fin 4 → EReal) (z z0 z1 z2 : Fin 4) (h0 : z0.val = (z.val + 3) % 4) (h1 : z1.val = (z.val + 2) % 4) (h2 : z2.val = (z.val + 1) % 4) :
    g z + g z0 + g z1 + g z2 = ∑ z, g z := by
  obtain rfl : z0 = ⟨(z.val + 3) % 4, Nat.mod_lt _ (by decide)⟩ := Fin.ext h0
  obtain rfl : z1 = ⟨(z.val + 2) % 4, Nat.mod_lt _ (by decide)⟩ := Fin.ext h1
  obtain rfl : z2 = ⟨(z.val + 1) % 4, Nat.mod_lt _ (by decide)⟩ := Fin.ext h2
  rw [Fin.sum_univ_four]
  fin_cases z
  · show g 0 + g 3 + g 2 + g 1 = _; ac_rfl
  · show g 1 + g 0 + g 3 + g 2 = _; ac_rfl
  · show g 2 + g 1 + g 0 + g 3 = _; ac_rfl
  · show g 3 + g 2 + g 1 + g 0 = _; ac_rfl

/-- Device `c`'s block of an array cut in four along its columns. -/
abbrev cut (c : Dev nD) : Vec Ideal S512x2048 .bf16 :=
  Layout.blockN (⟨2, ![512, 2048]⟩ : Shape) (⟨2, ![512, 8192]⟩ : Shape) (Layout.meshBlock [2, 2, 4] ![[], [2]] c) X

theorem cut_at (c : Dev nD) (r : Fin 512) (k : Fin 2048) :
    cut X c (ix2 r k) = X (ix2 r ⟨2048 * (c.val % 4) + k.val, by omega⟩) := by
  unfold cut
  rw [Layout.blockN_apply]
  refine congrArg X (funext fun a => Fin.ext ?_)
  rw [Layout.TilesN.idx_val]
  have hc : c.val < 16 := c.isLt
  match a with
  | ⟨0, _⟩ => exact Nat.zero_add _ |> (congrArg (· + r.val) (Nat.zero_mul 512)).trans
  | ⟨1, _⟩ =>
    have : Layout.meshLin [2, 2, 4] c.val [2] = c.val % 4 := by
      show c.val / 1 % 4 * 1 + 0 = c.val % 4
      omega
    show Layout.meshLin [2, 2, 4] c.val [2] * 2048 + k.val = 2048 * (c.val % 4) + k.val
    rw [this]; omega

theorem part_cut (c : Dev nD) (r j : Fin 512) : part (cut X) (cut Y) c r j = blk X Y r j ⟨c.val % 4, Nat.mod_lt _ (by decide)⟩ := by
  unfold part blk
  exact Finset.sum_congr rfl fun k _ => by rw [cut_at, cut_at]

theorem gathered (r j : Fin 512) : AG (cut X) (cut Y) (ix2 r j) = ∑ k : Fin 8192, X (ix2 r k) * Y (ix2 j k) := by
  rw [ag_at, part_cut, part_cut, part_cut, part_cut, sum_blk]
  have hz (i : Fin 3) (c : Dev nD) : (zs i c).val % 4 = (c.val % 4 + (3 - i.val)) % 4 := by
    show (4 * (c.val / 4) + (c.val % 4 + (3 - i.val)) % 4) % 4 = _
    omega
  exact around (blk X Y r j) _ _ _ _ (hz 0 _) (hz 1 _) (hz 2 _)

/-- The reference's result. -/
abbrev refOut : FVec Ideal (⟨2, ![512, 512]⟩ : Shape) .f32 :=
  Host.dotGeneral (F := Ideal) (φ₁ := .f32) (φ₂ := .f32) Cert.ReferenceIdeal.dot_S512x8192_S8192x512_S512x512_1_0_0_1_n_n none
    (extf (F := Ideal) (φ := .bf16) .f32 X Cert.ReferenceIdeal.Facts₀.bitsLt_bf16_f32)
    (transpose Cert.ReferenceIdeal.S8192x512 [1, 0] (extf (F := Ideal) (φ := .bf16) .f32 Y Cert.ReferenceIdeal.Facts₀.bitsLt_bf16_f32)
      Cert.ReferenceIdeal.Facts₀.transposes_S512x8192_S8192x512_1_0)
theorem reference_at (r j : Fin 512) : refOut X Y (ix2 r j) = ∑ k : Fin 8192, X (ix2 r k) * Y (ix2 j k) := by
  refine (StackMember.dotGeneral_plain_apply (m := 512) (k := 8192) (n := 512) none _ _ r j).trans (Finset.sum_congr rfl fun k _ => ?_)
  exact congrArg (X (ix2 r k) * ·) (transpose_ix2_apply (a := 512) (b := 8192) _ _ k j)

/-- Every device's result is the reference's. -/
theorem value : k0_pay1 (AG (cut X) (cut Y)) = refOut X Y := by
  funext i
  rw [eq_ix2 i]
  exact (gathered X Y (i 0) (i 1)).trans (reference_at X Y (i 0) (i 1)).symm

end Whole

end Cert.KernelIdeal.Run
-- ==== Proof.lean ====
/-
The five claims, put together: both kernels' runs leave the operands and the counters as claimed, the reference's run is
the generated one, and the idealized kernel's result is the reference's by the value lemma.
-/
module

public import proofs.«01_k».proof.Defs
public import proofs.«01_k».proof.Proof.K.Run
public import proofs.«01_k».proof.Proof.Value
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-! ## The idealized kernel's result -/

section Result

open Idealize.ShloMosaic.TcCoe
open Cert.KernelIdeal Cert.KernelIdeal.Gen Cert.KernelIdeal.Run

variable (m : (l : Loc nD τ sig) → Buf (Elt Ideal) l) (ρ : Dev nD → PrngReg)

theorem zero_0 : (fun a => win0_0.index (0 : Fin 1) a * main_arg0.ty.shape.size a) = fun _ => 0 := funext fun a => by fin_cases a <;> decide
theorem zero_1 : (fun a => win0_1.index (0 : Fin 1) a * main_arg1.ty.shape.size a) = fun _ => 0 := funext fun a => by fin_cases a <;> decide
theorem zero_2 : (fun a => win0_2.index (0 : Fin 1) a * main_v1.ty.shape.size a) = fun _ => 0 := funext fun a => by fin_cases a <;> decide

/-- A window of one block reads its whole buffer. -/
theorem Am_eq (d : Dev nD) : Am m ρ d = m ((d : Thread nD τ).loc main_arg0) :=
  Memref.read_access_unit_zero (Elt Ideal) main_arg0 zero_0 (fun a => by fin_cases a <;> decide) (m ((d : Thread nD τ).loc main_arg0))
theorem Bm_eq (d : Dev nD) : Bm m ρ d = m ((d : Thread nD τ).loc main_arg1) :=
  Memref.read_access_unit_zero (Elt Ideal) main_arg1 zero_1 (fun a => by fin_cases a <;> decide) (m ((d : Thread nD τ).loc main_arg1))

theorem result_eq (X Y : Vec Ideal (⟨2, ![512, 8192]⟩ : Shape) .bf16)
    (h : ∀ d : Dev nD, m ((d : Thread nD τ).loc main_arg0) = cut X d ∧ m ((d : Thread nD τ).loc main_arg1) = cut Y d) (c : Dev nD) :
    finalA m ρ c (2 : Fin 3) = refOut X Y := by
  have hA : Am m ρ = cut X := funext fun d => (Am_eq m ρ d).trans (h d).1
  have hB : Bm m ρ = cut Y := funext fun d => (Bm_eq m ρ d).trans (h d).2
  refine (Memref.read_access_unit_zero (Elt Ideal) main_v1 zero_2 (fun a => by fin_cases a <;> decide) (finalA m ρ c (2 : Fin 3))).symm.trans
    ((finalA_2 m ρ c).trans ?_)
  unfold outAt
  rw [hA, hB]
  exact value X Y

end Result

/-! ## The claims -/

theorem algebraic : Cert.algebraic_KernelIdeal_ReferenceIdeal (hKernelIdeal := Cert.KernelIdeal.Gen.facts) (hReferenceIdeal := Cert.ReferenceIdeal.Gen.facts) := by
  intro m g m' g' _ hm
  refine ⟨_, (θ_run Cert.KernelIdeal.defs _ _).mono (fun r h c => ⟨?_, ?_, ?_⟩) (Cert.KernelIdeal.Run.run_main m g),
    (θ_run Cert.ReferenceIdeal.defs _ _).mono (fun r h => h 0) (Cert.ReferenceIdeal.Value.run m' g')⟩
  · exact (h.1 c (2 : Fin 3)).trans (result_eq m g _ _ hm c)
  · exact (h.1 c (0 : Fin 3)).trans (Cert.KernelIdeal.Run.finalA_0 m g c)
  · exact (h.1 c (1 : Fin 3)).trans (Cert.KernelIdeal.Run.finalA_1 m g c)

theorem claim : Cert.Claim :=
  ⟨Cert.Kernel.Gen.facts, Cert.KernelIdeal.Gen.facts, Cert.ReferenceIdeal.Gen.facts,
    fun m g _ => Cert.Kernel.Run.frame_run m g,
    fun m g _ => Cert.KernelIdeal.Run.frame_run m g,
    fun m g _ => (θ_run Cert.ReferenceIdeal.defs _ _).mono (fun r h => ⟨fun c => (h c).2, Idealize.ShloMosaic.sem_eq_zero_of_no_sems (by decide) r.2⟩) (Cert.ReferenceIdeal.Value.run m g),
    trivial, algebraic⟩

end Cert.Proof

end
